-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "bin_width" .f32 0x3D042108#32 ((1 / 31 : ℝ) : EReal)
  ∧ IdealRules.named_const.Statement Cert.KernelIdeal.κ "neg_preterm_log2e" .f32 0xC52D4DC3#32 ((-((15745025 / 8192) * (Real.log 2)⁻¹) : ℝ) : EReal)
  ∧ IdealRules.named_const.Statement Cert.KernelIdeal.κ "inv_n" .f32 0x3603126F#32 ((1 / 512000 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x1x80x80x80 : Shape := ⟨5, ![2, 1, 80, 80, 80]⟩
abbrev S_ : Shape := ⟨0, ![]⟩

class Facts : Prop where
  bcast_S_S2x1x80x80x80 : S_.BroadcastsInDim S2x1x80x80x80 (![] : Fin 0 → Fin S2x1x80x80x80.rank)
  reducesTo_S2x1x80x80x80_S_d0_1_2_3_4 : S2x1x80x80x80.ReducesTo [0, 1, 2, 3, 4] S_
  h_S_ : 0 < S_.numel

variable [Facts]

def fn {F : FTy → Type} [FloatOps F] (main_arg0 : FVec F S2x1x80x80x80 .f32) (main_arg1 : FVec F S2x1x80x80x80 .f32) : IVec S_ 1 :=
  let main_cst : FVec F S_ .f32 := constant S_ .f32 0x00000000#32
  let main_v0 : FVec F S2x1x80x80x80 .f32 := broadcastInDim S2x1x80x80x80 ![] bcast_S_S2x1x80x80x80 main_cst
  let main_v1 : IVec S2x1x80x80x80 1 := cmpf .oge main_arg0 main_v0
  let main_c : IVec S_ 1 := constantI S_ 1 1#1
  let main_v2 : IVec S_ 1 := (fun x v => Host.reduce IntOp.andi x v reducesTo_S2x1x80x80x80_S_d0_1_2_3_4 h_S_) main_v1 main_c
  let main_cst_0 : FVec F S_ .f32 := constant S_ .f32 0x3F800000#32
  let main_v3 : FVec F S2x1x80x80x80 .f32 := broadcastInDim S2x1x80x80x80 ![] bcast_S_S2x1x80x80x80 main_cst_0
  let main_v4 : IVec S2x1x80x80x80 1 := cmpf .ole main_arg0 main_v3
  let main_c_1 : IVec S_ 1 := constantI S_ 1 1#1
  let main_v5 : IVec S_ 1 := (fun x v => Host.reduce IntOp.andi x v reducesTo_S2x1x80x80x80_S_d0_1_2_3_4 h_S_) main_v4 main_c_1
  let main_v6 : IVec S_ 1 := andi main_v2 main_v5
  let main_cst_2 : FVec F S_ .f32 := constant S_ .f32 0x00000000#32
  let main_v7 : FVec F S2x1x80x80x80 .f32 := broadcastInDim S2x1x80x80x80 ![] bcast_S_S2x1x80x80x80 main_cst_2
  let main_v8 : IVec S2x1x80x80x80 1 := cmpf .oge main_arg1 main_v7
  let main_c_3 : IVec S_ 1 := constantI S_ 1 1#1
  let main_v9 : IVec S_ 1 := (fun x v => Host.reduce IntOp.andi x v reducesTo_S2x1x80x80x80_S_d0_1_2_3_4 h_S_) main_v8 main_c_3
  let main_v10 : IVec S_ 1 := andi main_v6 main_v9
  let main_cst_4 : FVec F S_ .f32 := constant S_ .f32 0x3F800000#32
  let main_v11 : FVec F S2x1x80x80x80 .f32 := broadcastInDim S2x1x80x80x80 ![] bcast_S_S2x1x80x80x80 main_cst_4
  let main_v12 : IVec S2x1x80x80x80 1 := cmpf .ole main_arg1 main_v11
  let main_c_5 : IVec S_ 1 := constantI S_ 1 1#1
  let main_v13 : IVec S_ 1 := (fun x v => Host.reduce IntOp.andi x v reducesTo_S2x1x80x80x80_S_d0_1_2_3_4 h_S_) main_v12 main_c_5
  let main_v14 : IVec S_ 1 := andi main_v10 main_v13
  main_v14
-- ==== Kernel.lean ====
abbrev S2x1x80x80x80 : Shape := ⟨5, ![2, 1, 80, 80, 80]⟩
abbrev S2x6400x80 : Shape := ⟨3, ![2, 6400, 80]⟩
abbrev S2x1x1 : Shape := ⟨3, ![2, 1, 1]⟩
abbrev S1x6400x80 : Shape := ⟨3, ![1, 6400, 80]⟩
abbrev S1x1x1 : Shape := ⟨3, ![1, 1, 1]⟩
abbrev S32x32 : Shape := ⟨2, ![32, 32]⟩
abbrev S32x6400 : Shape := ⟨2, ![32, 6400]⟩
abbrev S80x6400 : Shape := ⟨2, ![80, 6400]⟩
abbrev S6400x80 : Shape := ⟨2, ![6400, 80]⟩
abbrev S32x1 : Shape := ⟨2, ![32, 1]⟩
abbrev S1x6400 : Shape := ⟨2, ![1, 6400]⟩
abbrev S6400 : Shape := ⟨1, ![6400]⟩
abbrev S32 : Shape := ⟨1, ![32]⟩
abbrev S1x32 : Shape := ⟨2, ![1, 32]⟩
abbrev S1x32x32 : Shape := ⟨3, ![1, 32, 32]⟩
abbrev S1 : Shape := ⟨1, ![1]⟩
abbrev S1x1 : Shape := ⟨2, ![1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S2x1x80x80x80, .f32⟩
  | .hbm, ⟨1, _⟩ => ⟨S2x1x80x80x80, .f32⟩
  | .hbm, ⟨2, _⟩ => ⟨S2x6400x80, .f32⟩
  | .hbm, ⟨3, _⟩ => ⟨S2x6400x80, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x6400x80, .f32⟩
  | .local _ .vmem, ⟨1, _⟩ => ⟨S1x6400x80, .f32⟩
  | .local _ .vmem, ⟨2, _⟩ => ⟨S1x6400x80, .f32⟩
  | .local _ .vmem, ⟨3, _⟩ => ⟨S1x6400x80, .f32⟩
  | .local _ .vmem, ⟨4, _⟩ => ⟨S1x1x1, .f32⟩
  | .local _ .vmem, ⟨5, _⟩ => ⟨S1x1x1, .f32⟩
  | .local _ .vmem, ⟨6, _⟩ => ⟨S32x32, .f32⟩
  | .local _ .vmem, ⟨7, _⟩ => ⟨S32x6400, .f32⟩
  | .local _ .vmem, ⟨8, _⟩ => ⟨S32x6400, .f32⟩
  | .local _ .vmem, ⟨9, _⟩ => ⟨S80x6400, .f32⟩
  | .local _ .vmem, ⟨10, _⟩ => ⟨S80x6400, .f32⟩
  | _, _ => ⟨S2x1x80x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c10_i32 : BitVec 32 := 10#32
  let v36 : BitVec 32 := Scalar.addi c0_i32 c10_i32
  let c1_i32 : BitVec 32 := 1#32
  ⟨c0_i32, v36, c1_i32⟩
def k0_off1 (k0_t1 : Fin k0_t1_loop.trips) (c0_i32_43 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v78 : BitVec 32 := Scalar.muli arg9 c8_i32
  let v79 : BitVec 32 := Scalar.addi v78 c0_i32_43
  let v80 : Index := Scalar.indexCast v79
  let c0_44 : Index := 0#32
  ![v80.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6400x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6400x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "bin_width" => some ((1 / 31 : ℝ) : EReal)
  | "inv_n" => some ((1 / 512000 : ℝ) : EReal)
  | "neg_preterm_log2e" => some ((-((15745025 / 8192) * (Real.log 2)⁻¹) : ℝ) : EReal)
  | _ => none
-- ==== ReferenceIdeal.lean ====
abbrev S2x1x80x80x80 : Shape := ⟨5, ![2, 1, 80, 80, 80]⟩
abbrev S_ : Shape := ⟨0, ![]⟩
abbrev S31 : Shape := ⟨1, ![31]⟩
abbrev S1 : Shape := ⟨1, ![1]⟩
abbrev S32 : Shape := ⟨1, ![32]⟩
abbrev S2x512000x1 : Shape := ⟨3, ![2, 512000, 1]⟩
abbrev S1x1x32 : Shape := ⟨3, ![1, 1, 32]⟩
abbrev S2x512000x32 : Shape := ⟨3, ![2, 512000, 32]⟩
abbrev S2x512000 : Shape := ⟨2, ![2, 512000]⟩
abbrev S2x32 : Shape := ⟨2, ![2, 32]⟩
abbrev S2x1x32 : Shape := ⟨3, ![2, 1, 32]⟩
abbrev S2x32x512000 : Shape := ⟨3, ![2, 32, 512000]⟩
abbrev S2x32x32 : Shape := ⟨3, ![2, 32, 32]⟩
abbrev S2x32x1 : Shape := ⟨3, ![2, 32, 1]⟩
abbrev S2 : Shape := ⟨1, ![2]⟩

abbrev nBuf : Space → Nat
  | .hbm => 141
  | .vmem => 0
  | .smem => 0
  | _ => 0

abbrev hbmTy0_0 (i : Nat) : BufTy := match i % 128 with
  | 0 => ⟨S2x1x80x80x80, .f32⟩
  | 1 => ⟨S2x1x80x80x80, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S31, .f32⟩
  | 10 => ⟨S_, .f32⟩
  | 11 => ⟨S31, .f32⟩
  | 12 => ⟨S31, .f32⟩
  | 13 => ⟨S1, .f32⟩
  | 14 => ⟨S_, .f32⟩
  | 15 => ⟨S31, .f32⟩
  | 16 => ⟨S31, .f32⟩
  | 17 => ⟨S31, .f32⟩
  | 18 => ⟨S31, .f32⟩
  | 19 => ⟨S1, .f32⟩
  | 20 => ⟨S31, .f32⟩
  | 21 => ⟨S31, .f32⟩
  | 22 => ⟨S31, .f32⟩
  | 23 => ⟨S1, .f32⟩
  | 24 => ⟨S32, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .i1⟩
  | 37 => ⟨S_, .f32⟩
  | 38 => ⟨S_, .i1⟩
  | 39 => ⟨S_, .i1⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S2x1x80x80x80, .f32⟩
  | 48 => ⟨S2x1x80x80x80, .f32⟩
  | 49 => ⟨S2x1x80x80x80, .f32⟩
  | 50 => ⟨S2x1x80x80x80, .f32⟩
  | 51 => ⟨S2x1x80x80x80, .f32⟩
  | 52 => ⟨S2x1x80x80x80, .f32⟩
  | 53 => ⟨S2x1x80x80x80, .f32⟩
  | 54 => ⟨S2x1x80x80x80, .f32⟩
  | 55 => ⟨S_, .f32⟩
  | 56 => ⟨S_, .f32⟩
  | 57 => ⟨S_, .f32⟩
  | 58 => ⟨S2x1x80x80x80, .f32⟩
  | 59 => ⟨S2x1x80x80x80, .f32⟩
  | 60 => ⟨S_, .f32⟩
  | 61 => ⟨S2x1x80x80x80, .f32⟩
  | 62 => ⟨S2x1x80x80x80, .f32⟩
  | 63 => ⟨S2x512000x1, .f32⟩
  | 64 => ⟨S_, .f32⟩
  | 65 => ⟨S_, .f32⟩
  | 66 => ⟨S1x1x32, .f32⟩
  | 67 => ⟨S2x512000x32, .f32⟩
  | 68 => ⟨S2x512000x32, .f32⟩
  | 69 => ⟨S2x512000x32, .f32⟩
  | 70 => ⟨S2x512000x32, .f32⟩
  | 71 => ⟨S2x512000x32, .f32⟩
  | 72 => ⟨S2x512000x32, .f32⟩
  | 73 => ⟨S2x512000x32, .f32⟩
  | 74 => ⟨S_, .f32⟩
  | 75 => ⟨S2x512000, .f32⟩
  | 76 => ⟨S2x512000x1, .f32⟩
  | 77 => ⟨S2x512000x32, .f32⟩
  | 78 => ⟨S2x512000x32, .f32⟩
  | 79 => ⟨S_, .f32⟩
  | 80 => ⟨S2x32, .f32⟩
  | 81 => ⟨S2x1x32, .f32⟩
  | 82 => ⟨S_, .f32⟩
  | 83 => ⟨S2x1x32, .f32⟩
  | 84 => ⟨S2x1x32, .f32⟩
  | 85 => ⟨S_, .f32⟩
  | 86 => ⟨S_, .f32⟩
  | 87 => ⟨S_, .f32⟩
  | 88 => ⟨S2x1x80x80x80, .f32⟩
  | 89 => ⟨S2x1x80x80x80, .f32⟩
  | 90 => ⟨S_, .f32⟩
  | 91 => ⟨S2x1x80x80x80, .f32⟩
  | 92 => ⟨S2x1x80x80x80, .f32⟩
  | 93 => ⟨S2x512000x1, .f32⟩
  | 94 => ⟨S_, .f32⟩
  | 95 => ⟨S_, .f32⟩
  | 96 => ⟨S1x1x32, .f32⟩
  | 97 => ⟨S2x512000x32, .f32⟩
  | 98 => ⟨S2x512000x32, .f32⟩
  | 99 => ⟨S2x512000x32, .f32⟩
  | 100 => ⟨S2x512000x32, .f32⟩
  | 101 => ⟨S2x512000x32, .f32⟩
  | 102 => ⟨S2x512000x32, .f32⟩
  | 103 => ⟨S2x512000x32, .f32⟩
  | 104 => ⟨S_, .f32⟩
  | 105 => ⟨S2x512000, .f32⟩
  | 106 => ⟨S2x512000x1, .f32⟩
  | 107 => ⟨S2x512000x32, .f32⟩
  | 108 => ⟨S2x512000x32, .f32⟩
  | 109 => ⟨S_, .f32⟩
  | 110 => ⟨S2x32, .f32⟩
  | 111 => ⟨S2x1x32, .f32⟩
  | 112 => ⟨S_, .f32⟩
  | 113 => ⟨S2x1x32, .f32⟩
  | 114 => ⟨S2x1x32, .f32⟩
  | 115 => ⟨S2x32x512000, .f32⟩
  | 116 => ⟨S2x32x32, .f32⟩
  | 117 => ⟨S_, .f32⟩
  | 118 => ⟨S2x32x32, .f32⟩
  | 119 => ⟨S2x32x32, .f32⟩
  | 120 => ⟨S2x32x1, .f32⟩
  | 121 => ⟨S2x32x32, .f32⟩
  | 122 => ⟨S_, .f32⟩
  | 123 => ⟨S2x32x32, .f32⟩
  | 124 => ⟨S2x32x32, .f32⟩
  | 125 => ⟨S_, .f32⟩
  | 126 => ⟨S2x32x32, .f32⟩
  | 127 => ⟨S2x32x32, .f32⟩
  | _ => ⟨S2x1x80x80x80, .f32⟩

abbrev hbmTy0_1 (i : Nat) : BufTy := match i % 128 with
  | 0 => ⟨S2x32x32, .f32⟩
  | 1 => ⟨S_, .f32⟩
  | 2 => ⟨S2x32x32, .f32⟩
  | 3 => ⟨S2x32x32, .f32⟩
  | 4 => ⟨S2x32x32, .f32⟩
  | 5 => ⟨S2x32x32, .f32⟩
  | 6 => ⟨S_, .f32⟩
  | 7 => ⟨S2, .f32⟩
  | 8 => ⟨S_, .f32⟩
  | 9 => ⟨S_, .f32⟩
  | 10 => ⟨S_, .f32⟩
  | 11 => ⟨S_, .f32⟩
  | 12 => ⟨S_, .f32⟩
  | _ => ⟨S2x1x80x80x80, .f32⟩

abbrev hbmTy (i : Nat) : BufTy := match i / 128 with
  | 0 => hbmTy0_0 i
  | 1 => hbmTy0_1 i
  | _ => ⟨S2x1x80x80x80, .f32⟩

abbrev bufTy : (tb : Table) → Fin (tcTables nBuf tb) → BufTy
  | .hbm, ⟨i, _⟩ => hbmTy i
  | _, _ => ⟨S2x1x80x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_cst_2 : Ref sig .tc := ⟨.hbm, 27, rfl⟩
abbrev main_v2 : Ref sig .tc := ⟨.hbm, 28, rfl⟩
abbrev main_v3 : Ref sig .tc := ⟨.hbm, 29, rfl⟩
abbrev main_cst_3 : Ref sig .tc := ⟨.hbm, 30, rfl⟩
abbrev main_v4 : Ref sig .tc := ⟨.hbm, 31, rfl⟩
abbrev main_cst_4 : Ref sig .tc := ⟨.hbm, 32, rfl⟩
abbrev main_v5 : Ref sig .tc := ⟨.hbm, 33, rfl⟩
abbrev main_v6 : Ref sig .tc := ⟨.hbm, 34, rfl⟩
abbrev main_cst_5 : Ref sig .tc := ⟨.hbm, 35, rfl⟩
abbrev main_v7 : Ref sig .tc := ⟨.hbm, 36, rfl⟩
abbrev main_cst_6 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_7 : Ref sig .tc := ⟨.hbm, 41, rfl⟩
abbrev main_call1_v0 : Ref sig .tc := ⟨.hbm, 42, rfl⟩
abbrev main_v11 : Ref sig .tc := ⟨.hbm, 43, rfl⟩
abbrev main_cst_8 : Ref sig .tc := ⟨.hbm, 44, rfl⟩
abbrev main_call2_v0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_9 : Ref sig .tc := ⟨.hbm, 55, rfl⟩
abbrev main_cst_10 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v21 : Ref sig .tc := ⟨.hbm, 62, rfl⟩
abbrev main_v22 : Ref sig .tc := ⟨.hbm, 63, rfl⟩
abbrev main_cst_11 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_12 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_13 : Ref sig .tc := ⟨.hbm, 79, rfl⟩
abbrev main_v36 : Ref sig .tc := ⟨.hbm, 80, rfl⟩
abbrev main_v37 : Ref sig .tc := ⟨.hbm, 81, rfl⟩
abbrev main_cst_14 : Ref sig .tc := ⟨.hbm, 82, rfl⟩
abbrev main_v38 : Ref sig .tc := ⟨.hbm, 83, rfl⟩
abbrev main_v39 : Ref sig .tc := ⟨.hbm, 84, rfl⟩
abbrev main_cst_15 : Ref sig .tc := ⟨.hbm, 85, rfl⟩
abbrev main_cst_16 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v40 : Ref sig .tc := ⟨.hbm, 92, rfl⟩
abbrev main_v41 : Ref sig .tc := ⟨.hbm, 93, rfl⟩
abbrev main_cst_17 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_18 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_19 : Ref sig .tc := ⟨.hbm, 109, rfl⟩
abbrev main_v55 : Ref sig .tc := ⟨.hbm, 110, rfl⟩
abbrev main_v56 : Ref sig .tc := ⟨.hbm, 111, rfl⟩
abbrev main_cst_20 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_21 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_22 : Ref sig .tc := ⟨.hbm, 122, rfl⟩
abbrev main_v65 : Ref sig .tc := ⟨.hbm, 123, rfl⟩
abbrev main_v66 : Ref sig .tc := ⟨.hbm, 124, rfl⟩
abbrev main_cst_23 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_24 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_25 : Ref sig .tc := ⟨.hbm, 134, rfl⟩
abbrev main_v74 : Ref sig .tc := ⟨.hbm, 135, rfl⟩
abbrev main_cst_26 : Ref sig .tc := ⟨.hbm, 136, rfl⟩
abbrev main_v75 : Ref sig .tc := ⟨.hbm, 137, rfl⟩
abbrev main_cst_27 : Ref sig .tc := ⟨.hbm, 138, rfl⟩
abbrev main_v76 : Ref sig .tc := ⟨.hbm, 139, rfl⟩
abbrev main_v77 : Ref sig .tc := ⟨.hbm, 140, rfl⟩

abbrev nD : Nat := 1
abbrev τ : Topo := Topo.v7x

variable {F : FTy → Type} [FloatOps F]
-- ==== Proof.Frames.lean ====
/- The frames: each program runs to its end, leaves its arguments as they were and every counter at zero. -/
module

public import proofs.«01_k».proof.Proof.Gen.ReferenceIdeal.Run
public import Idealize.ShloMosaic.Lib.Quiescent

@[expose] public section

noncomputable section

namespace Cert.Frames

open Idealize.ShloMosaic Idealize.SL.Sem

/-- The reference, host operations only, runs to its end from any memory with zero counters; its two arguments are
    as they were and every counter is zero (it has no semaphore). -/
theorem reference {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.1, (h c).2.2⟩, sem_eq_zero_of_no_sems rfl r.2⟩)
    (Cert.ReferenceIdeal.Value.run m g)

end Cert.Frames

end
-- ==== Proof.Body.lean ====
/- One trip of the kernel's loop, as three updates: each trip reads eight rows of the two transposed volumes, turns
   every row into its 32 Parzen weights, and adds the sums of the weights and of their products to the accumulators. -/
module

public import proofs.«01_k».proof.Proof.Gen.KernelIdeal.Frame
public import Idealize.ShloMosaic.Lib.Pipeline.Value
public import Idealize.ShloMosaic.Lib.VecWindow

@[expose] public section

noncomputable section

namespace Cert.KernelIdeal.Body

open Cert.KernelIdeal Cert.KernelIdeal.Gen Idealize.ShloMosaic Idealize.ShloMosaic.TcCoe Idealize.SL.Sem

variable {F : FTy → Type} [FloatOps F] [Named F]

/-- Row `j` of trip `k`'s eight rows of a transposed volume. -/
def row (X : Vec F S80x6400 .f32) (k : Fin k0_t1_loop.trips) (j : Fin 8) : Vec F S1x6400 .f32 :=
  View.ld X (Rect.unit (s := S80x6400) (k0_off1 k (BitVec.ofNat 32 j.val)) S1x6400.size (k0_off1_inb k j))

/-- The 32 weights of every element of a row: one column of bins an element. -/
def weight (r : Vec F S1x6400 .f32) : FVec F S32x6400 .f32 := k0_pay2 k0_pay39 r

/-- The products of two rows' weights, summed over the row. -/
def dot (a b : FVec F S32x6400 .f32) : FVec F S32x32 .f32 :=
  matmul dot_S32x6400_S32x6400_S32x32_1_1_0_0_n_n none a b (constant S32x32 .f32 0x00000000#32)

/-- Eight summands, added in pairs. -/
def tree {S : Shape} (f : Fin 8 → FVec F S .f32) : FVec F S .f32 :=
  addf (addf (addf (f 0) (f 1)) (addf (f 2) (f 3))) (addf (addf (f 4) (f 5)) (addf (f 6) (f 7)))

/-- What trip `k` leaves in an accumulator of weights that held `P`. -/
def stepMarg (X : Vec F S80x6400 .f32) (k : Fin k0_t1_loop.trips) (P : Vec F S32x6400 .f32) : Vec F S32x6400 .f32 :=
  addf P (tree fun j => weight (row X k j))

/-- What trip `k` leaves in the accumulator of products that held `A`. -/
def stepJoint (X Y : Vec F S80x6400 .f32) (k : Fin k0_t1_loop.trips) (A : Vec F S32x32 .f32) : Vec F S32x32 .f32 :=
  addf A (tree fun j => dot (weight (row X k j)) (weight (row Y k j)))

/-! ## Every row's weights are the same function of the row -/

variable (r : Vec F S1x6400 .f32)

theorem pay3_eq : k0_pay3 k0_pay39 r = weight r := rfl
theorem pay8_eq : k0_pay8 (k0_pay5 k0_pay39 r) (k0_pay7 k0_pay39 r) = weight r := rfl
theorem pay9_eq : k0_pay9 (k0_pay6 k0_pay39 r) = weight r := rfl
theorem pay11_eq : k0_pay11 k0_pay39 r = weight r := rfl
theorem pay12_eq : k0_pay12 k0_pay39 r = weight r := rfl
theorem pay14_eq : k0_pay14 k0_pay39 r = weight r := rfl
theorem pay15_eq : k0_pay15 k0_pay39 r = weight r := rfl
theorem pay19_eq : k0_pay19 (k0_pay17 k0_pay39 r) = weight r := rfl
theorem pay20_eq : k0_pay20 (k0_pay18 k0_pay39 r) = weight r := rfl
theorem pay22_eq : k0_pay22 k0_pay39 r = weight r := rfl
theorem pay23_eq : k0_pay23 k0_pay39 r = weight r := rfl
theorem pay25_eq : k0_pay25 k0_pay39 r = weight r := rfl
theorem pay26_eq : k0_pay26 k0_pay39 r = weight r := rfl
theorem pay29_eq : k0_pay29 k0_pay39 r = weight r := rfl
theorem pay30_eq : k0_pay30 (k0_pay28 k0_pay39 r) = weight r := rfl

variable (s : Vec F S1x6400 .f32)

theorem pay4_eq : k0_pay4 k0_pay39 r s = dot (weight r) (weight s) := rfl
theorem pay10_eq : k0_pay10 (k0_pay5 k0_pay39 r) (k0_pay6 k0_pay39 s) (k0_pay7 k0_pay39 r) = dot (weight r) (weight s) := rfl
theorem pay13_eq : k0_pay13 k0_pay39 r s = dot (weight r) (weight s) := rfl
theorem pay16_eq : k0_pay16 k0_pay39 r s = dot (weight r) (weight s) := rfl
theorem pay21_eq : k0_pay21 (k0_pay17 k0_pay39 r) (k0_pay18 k0_pay39 s) = dot (weight r) (weight s) := rfl
theorem pay24_eq : k0_pay24 k0_pay39 r s = dot (weight r) (weight s) := rfl
theorem pay27_eq : k0_pay27 k0_pay39 r s = dot (weight r) (weight s) := rfl

/-- The sum of eight rows' weights, as the trip stores it over the first volume's accumulator. -/
theorem pay31_eq (f : Fin 8 → FVec F S32x6400 .f32) (P : Vec F S32x6400 .f32) :
    k0_pay31 (f 0) (f 1) (f 2) (f 3) (f 4) (f 5) (f 6) (f 7) P = addf P (tree f) := by
  unfold k0_pay31; exact shapeCast_self _ _

/-- The same over the second volume's, whose last summand is completed on the way. -/
theorem pay32_eq (f : Fin 8 → FVec F S32x6400 .f32) (w : FVec F S32x6400 .f32) (hw : k0_pay30 w = f 7)
    (P : Vec F S32x6400 .f32) :
    k0_pay32 (f 0) (f 1) (f 2) (f 3) (f 4) (f 5) (f 6) w P = addf P (tree f) := by
  unfold k0_pay32; dsimp only; rw [hw]; exact shapeCast_self _ _

/-- The sum of eight rows' products, as the trip stores it. -/
theorem pay40_eq (f : Fin 8 → FVec F S32x32 .f32) (w a : FVec F S32x6400 .f32) (h : dot a (k0_pay30 w) = f 7)
    (A : Vec F S32x32 .f32) :
    k0_pay40 (k0_pay33 (f 0) (f 1) (f 2) (f 3) (f 4) (f 5) (f 6) w a A) = addf A (tree f) := by
  unfold k0_pay40 k0_pay33; dsimp only; rw [shapeCast_self]
  unfold dot at h; rw [h]; rfl

/-! ## The trip's stores -/

section Trip

variable (𝒱 : Variants) (c : Dev nD) (bd : Option 𝒱.V) (i : grid0.Coords)
  (arg1 : Memref sig .tc .vmem S1x6400x80 .f32) (harg1 : arg1.IsWhole)
  (arg2 : Memref sig .tc .vmem S1x6400x80 .f32) (harg2 : arg2.IsWhole)
  (arg3 : Memref sig .tc .vmem S1x1x1 .f32) (harg3 : arg3.IsWhole)
  (arg4 : Memref sig .tc .vmem S32x32 .f32) (harg4 : arg4.IsWhole)
  (arg5 : Memref sig .tc .vmem S32x6400 .f32) (harg5 : arg5.IsWhole)
  (arg6 : Memref sig .tc .vmem S32x6400 .f32) (harg6 : arg6.IsWhole)
  (arg7 : Memref sig .tc .vmem S80x6400 .f32) (harg7 : arg7.IsWhole)
  (arg8 : Memref sig .tc .vmem S80x6400 .f32) (harg8 : arg8.IsWhole)
  (v31 : FVec F S80x6400 .f32)
  (X7 : BufTy.Contents (Elt F) arg7.view.ty) (X8 : BufTy.Contents (Elt F) arg8.view.ty)

/-- Each trip stores once over each accumulator, whole: what it held, updated. -/
theorem trip_eq (k : Fin k0_t1_loop.trips) (f4 : BufTy.Contents (Elt F) arg4.view.ty)
    (f5 : BufTy.Contents (Elt F) arg5.view.ty) (f6 : BufTy.Contents (Elt F) arg6.view.ty) :
    tripL_k0_t1 𝒱 c bd i arg1 harg1 arg2 harg2 arg3 harg3 arg4 harg4 arg5 harg5 arg6 harg6 arg7 harg7 arg8 harg8
      v31 X7 X8 k f4 f5 f6
    = ([⟨Rect.unit ![0, 0] S32x32.size inb_S32x32_S32x32_0_0,
          stepJoint (arg7.view.read (Elt F) X7) (arg8.view.read (Elt F) X8) k (arg4.view.read (Elt F) f4)⟩],
       [⟨Rect.unit ![0, 0] S32x6400.size inb_S32x6400_S32x6400_0_0,
          stepMarg (arg7.view.read (Elt F) X7) k (arg5.view.read (Elt F) f5)⟩],
       [⟨Rect.unit ![0, 0] S32x6400.size inb_S32x6400_S32x6400_0_0,
          stepMarg (arg8.view.read (Elt F) X8) k (arg6.view.read (Elt F) f6)⟩]) := by
  have e4 := pay40_eq (fun j => dot (weight (row (arg7.view.read (Elt F) X7) k j)) (weight (row (arg8.view.read (Elt F) X8) k j)))
    (k0_pay28 k0_pay39 (row (arg8.view.read (Elt F) X8) k 7)) (k0_pay29 k0_pay39 (row (arg7.view.read (Elt F) X7) k 7)) rfl
    (arg4.view.read (Elt F) f4)
  have e5 := pay31_eq (fun j => weight (row (arg7.view.read (Elt F) X7) k j)) (arg5.view.read (Elt F) f5)
  have e6 := pay32_eq (fun j => weight (row (arg8.view.read (Elt F) X8) k j))
    (k0_pay28 k0_pay39 (row (arg8.view.read (Elt F) X8) k 7)) rfl (arg6.view.read (Elt F) f6)
  unfold stepJoint stepMarg
  rw [← e4, ← e5, ← e6, ← View.readAt_full arg4.view f4 inb_S32x32_S32x32_0_0,
    ← View.readAt_full arg5.view f5 inb_S32x6400_S32x6400_0_0, ← View.readAt_full arg6.view f6 inb_S32x6400_S32x6400_0_0]
  unfold tripL_k0_t1 trip_k0_t1
  dsimp only
  sl_unfold_words
  rfl

end Trip

end Cert.KernelIdeal.Body

end
-- ==== Proof.Loop.lean ====
/- The kernel's block: the ten trips of its loop one after another, then what the block writes. -/
module

public import proofs.«01_k».proof.Proof.Body

@[expose] public section

noncomputable section

namespace Cert.KernelIdeal.Body

open Cert.KernelIdeal Cert.KernelIdeal.Gen Idealize.ShloMosaic Idealize.ShloMosaic.TcCoe Idealize.SL.Sem

variable {F : FTy → Type} [FloatOps F] [Named F]

/-- An accumulator of weights before trip `k`, from `P` at the loop's entry. -/
def margAt (X : Vec F S80x6400 .f32) (P : Vec F S32x6400 .f32) : ℕ → Vec F S32x6400 .f32
  | 0 => P
  | k + 1 => if h : k < k0_t1_loop.trips then stepMarg X ⟨k, h⟩ (margAt X P k) else margAt X P k

/-- The accumulator of products before trip `k`, from `A` at the loop's entry. -/
def jointAt (X Y : Vec F S80x6400 .f32) (A : Vec F S32x32 .f32) : ℕ → Vec F S32x32 .f32
  | 0 => A
  | k + 1 => if h : k < k0_t1_loop.trips then stepJoint X Y ⟨k, h⟩ (jointAt X Y A k) else jointAt X Y A k

theorem margAt_succ (X : Vec F S80x6400 .f32) (P : Vec F S32x6400 .f32) (k : Fin k0_t1_loop.trips) :
    margAt X P (k.val + 1) = stepMarg X k (margAt X P k.val) := by
  rw [margAt, dif_pos k.isLt]

theorem jointAt_succ (X Y : Vec F S80x6400 .f32) (A : Vec F S32x32 .f32) (k : Fin k0_t1_loop.trips) :
    jointAt X Y A (k.val + 1) = stepJoint X Y k (jointAt X Y A k.val) := by
  rw [jointAt, dif_pos k.isLt]

section Loop

variable (𝒱 : Variants) (c : Dev nD) (bd : Option 𝒱.V) (i : grid0.Coords)
  (arg1 : Memref sig .tc .vmem S1x6400x80 .f32) (harg1 : arg1.IsWhole)
  (arg2 : Memref sig .tc .vmem S1x6400x80 .f32) (harg2 : arg2.IsWhole)
  (arg3 : Memref sig .tc .vmem S1x1x1 .f32) (harg3 : arg3.IsWhole)
  (arg4 : Memref sig .tc .vmem S32x32 .f32) (harg4 : arg4.IsWhole)
  (arg5 : Memref sig .tc .vmem S32x6400 .f32) (harg5 : arg5.IsWhole)
  (arg6 : Memref sig .tc .vmem S32x6400 .f32) (harg6 : arg6.IsWhole)
  (arg7 : Memref sig .tc .vmem S80x6400 .f32) (harg7 : arg7.IsWhole)
  (arg8 : Memref sig .tc .vmem S80x6400 .f32) (harg8 : arg8.IsWhole)

section Trips

variable (v31 : FVec F S80x6400 .f32)
  (X7 : BufTy.Contents (Elt F) arg7.view.ty) (X8 : BufTy.Contents (Elt F) arg8.view.ty)
  (G4 : BufTy.Contents (Elt F) arg4.view.ty) (G5 : BufTy.Contents (Elt F) arg5.view.ty)
  (G6 : BufTy.Contents (Elt F) arg6.view.ty)

/-- Before trip `k` each accumulator reads what the `k` trips before it left. -/
theorem loop_eq : ∀ k : ℕ, k ≤ k0_t1_loop.trips →
    let pb := pb_k0_t1 𝒱 c bd i arg1 harg1 arg2 harg2 arg3 harg3 arg4 harg4 arg5 harg5 arg6 harg6 arg7 harg7 arg8 harg8
      v31 X7 X8 G4 G5 G6 k
    arg4.view.read (Elt F) (arg4.view.writes (Elt F) G4 pb.1)
        = jointAt (arg7.view.read (Elt F) X7) (arg8.view.read (Elt F) X8) (arg4.view.read (Elt F) G4) k
    ∧ arg5.view.read (Elt F) (arg5.view.writes (Elt F) G5 pb.2.1)
        = margAt (arg7.view.read (Elt F) X7) (arg5.view.read (Elt F) G5) k
    ∧ arg6.view.read (Elt F) (arg6.view.writes (Elt F) G6 pb.2.2)
        = margAt (arg8.view.read (Elt F) X8) (arg6.view.read (Elt F) G6) k
  | 0, _ => ⟨rfl, rfl, rfl⟩
  | k + 1, h => by
    obtain ⟨h4, h5, h6⟩ := loop_eq k (Nat.le_of_succ_le h)
    dsimp only at h4 h5 h6 ⊢
    rw [pb_k0_t1_succ 𝒱 c bd i arg1 harg1 arg2 harg2 arg3 harg3 arg4 harg4 arg5 harg5 arg6 harg6 arg7 harg7 arg8 harg8
      v31 X7 X8 G4 G5 G6 ⟨k, h⟩, trip_eq]
    dsimp only [List.singleton_append]
    rw [jointAt_succ _ _ _ ⟨k, h⟩, margAt_succ _ _ ⟨k, h⟩, margAt_succ _ _ ⟨k, h⟩, ← h4, ← h5, ← h6]
    exact ⟨View.read_writes_full .., View.read_writes_full .., View.read_writes_full ..⟩

end Trips

/-- What a block computes from the two blocks of the volumes: both transposed and cut to `[0, 1]`, the ten trips from
    zeros, and the sum of the mutual-information terms. -/
def block (x0 x1 : Vec F S1x6400x80 .f32) : FVec F S1x1x1 .f32 :=
  k0_pay1 (k0_pay41 (jointAt (k0_pay37 x0) (k0_pay38 x1) k0_pay34 10))
    (k0_pay42 (jointAt (k0_pay37 x0) (k0_pay38 x1) k0_pay34 10) (margAt (k0_pay37 x0) k0_pay35 10)
      (margAt (k0_pay38 x1) k0_pay36 10))

/-- A whole store over a buffer, then the loop's stores, read back whole: the loop's stores over the first one's value. -/
theorem readCov_loop {S : Shape} {sig' : RefSig} {κ' : Kind} {sp : Space} (v : View sig' κ' sp S .f32)
    {off : Fin S.rank → ℕ} (inb : ∀ a, off a + S.size a ≤ S.size a) (L : List (View.Piece (Elt F) S .f32))
    (p : View.Piece (Elt F) S .f32) :
    v.readCov (L ++ [p]) (Rect.unit off S.size inb).toLoadRect
      = v.read (Elt F) (v.writes (Elt F) (v.writes (Elt F) v.junk [p]) L) := by
  show v.readAt (Elt F) _ (v.writes (Elt F) v.junk (L ++ [p])) = _
  rw [View.readAt_full, View.writes_append]

/-- What the block's run leaves in the result's buffer. -/
theorem out_eq (x0 x1 : Vec F S1x6400x80 .f32) :
    out0_A_2 c i arg1 harg1 arg2 harg2 arg3 harg3 arg4 harg4 arg5 harg5 arg6 harg6 arg7 harg7 arg8 harg8 x0 x1
      = block x0 x1 := by
  unfold out0_A_2
  rw [View.read_writes_eq_canon _ _ _ (cover0_A_2 c i arg1 harg1 arg2 harg2 arg3 harg3 arg4 harg4 arg5 harg5 arg6 harg6
    arg7 harg7 arg8 harg8 x0 x1)]
  unfold kernelRun0_A
  dsimp only
  sl_unfold_words
  refine (View.canon_unit_zero (S := S1x1x1) (by decide) _ _).trans ?_
  obtain ⟨h4, h5, h6⟩ := loop_eq Variants.none c none i arg1 harg1 arg2 harg2 arg3 harg3 arg4 harg4 arg5 harg5 arg6 harg6
    arg7 harg7 arg8 harg8
    (k0_pay38 (View.readAt (Elt F) arg2.view
      (Rect.unit ![0, 0, 0] S1x6400x80.size inb_S1x6400x80_S1x6400x80_0_0_0).toLoadRect (harg2.unread x1)))
    (arg7.view.writes (Elt F) arg7.view.junk [⟨Rect.unit ![0, 0] S80x6400.size inb_S80x6400_S80x6400_0_0,
      k0_pay37 (View.readAt (Elt F) arg1.view
        (Rect.unit ![0, 0, 0] S1x6400x80.size inb_S1x6400x80_S1x6400x80_0_0_0).toLoadRect (harg1.unread x0))⟩])
    (arg8.view.writes (Elt F) arg8.view.junk [⟨Rect.unit ![0, 0] S80x6400.size inb_S80x6400_S80x6400_0_0,
      k0_pay38 (View.readAt (Elt F) arg2.view
        (Rect.unit ![0, 0, 0] S1x6400x80.size inb_S1x6400x80_S1x6400x80_0_0_0).toLoadRect (harg2.unread x1))⟩])
    (arg4.view.writes (Elt F) arg4.view.junk [⟨Rect.unit ![0, 0] S32x32.size inb_S32x32_S32x32_0_0, k0_pay34⟩])
    (arg5.view.writes (Elt F) arg5.view.junk [⟨Rect.unit ![0, 0] S32x6400.size inb_S32x6400_S32x6400_0_0, k0_pay35⟩])
    (arg6.view.writes (Elt F) arg6.view.junk [⟨Rect.unit ![0, 0] S32x6400.size inb_S32x6400_S32x6400_0_0, k0_pay36⟩])
    k0_t1_loop.trips (Nat.le_refl _)
  have e7 : ∀ w, arg7.view.read (Elt F) (arg7.view.writes (Elt F) arg7.view.junk
      [⟨Rect.unit ![0, 0] S80x6400.size inb_S80x6400_S80x6400_0_0, w⟩]) = w := fun w => View.read_writes_full ..
  have e8 : ∀ w, arg8.view.read (Elt F) (arg8.view.writes (Elt F) arg8.view.junk
      [⟨Rect.unit ![0, 0] S80x6400.size inb_S80x6400_S80x6400_0_0, w⟩]) = w := fun w => View.read_writes_full ..
  have e4 : arg4.view.read (Elt F) (arg4.view.writes (Elt F) arg4.view.junk
      [⟨Rect.unit ![0, 0] S32x32.size inb_S32x32_S32x32_0_0, k0_pay34⟩]) = k0_pay34 := View.read_writes_full ..
  have e5 : arg5.view.read (Elt F) (arg5.view.writes (Elt F) arg5.view.junk
      [⟨Rect.unit ![0, 0] S32x6400.size inb_S32x6400_S32x6400_0_0, k0_pay35⟩]) = k0_pay35 := View.read_writes_full ..
  have e6 : arg6.view.read (Elt F) (arg6.view.writes (Elt F) arg6.view.junk
      [⟨Rect.unit ![0, 0] S32x6400.size inb_S32x6400_S32x6400_0_0, k0_pay36⟩]) = k0_pay36 := View.read_writes_full ..
  have r0 : View.readAt (Elt F) arg1.view
      (Rect.unit ![0, 0, 0] S1x6400x80.size inb_S1x6400x80_S1x6400x80_0_0_0).toLoadRect (harg1.unread x0) = x0 :=
    (View.readAt_full ..).trans (harg1.read_unread x0)
  have r1 : View.readAt (Elt F) arg2.view
      (Rect.unit ![0, 0, 0] S1x6400x80.size inb_S1x6400x80_S1x6400x80_0_0_0).toLoadRect (harg2.unread x1) = x1 :=
    (View.readAt_full ..).trans (harg2.read_unread x1)
  rw [e7, e8, e4, r0, r1] at h4
  rw [e7, e5, r0, r1] at h5
  rw [e8, e6, r0, r1] at h6
  have ht : k0_t1_loop.trips = 10 := by decide
  rw [ht] at h4 h5 h6
  rw [readCov_loop arg4.view, readCov_loop arg5.view, readCov_loop arg6.view]
  unfold block
  rw [← h4, ← h5, ← h6, r0, r1, ← ht]

end Loop

end Cert.KernelIdeal.Body

end
-- ==== Proof.Launch.lean ====
/- The launch around the block: the grid's two points each write one term of the result array, and the host operations
   after it take the negated mean of the two. -/
module

public import proofs.«01_k».proof.Proof.Loop
public import Idealize.ShloMosaic.Lib.Pipeline.ValueKit
public import Idealize.ShloMosaic.Lib.Claim

@[expose] public section

set_option maxRecDepth 16384

noncomputable section

namespace Cert.KernelIdeal.Launch

open Cert.KernelIdeal Cert.KernelIdeal.Gen Idealize.ShloMosaic Idealize.ShloMosaic.TcCoe Idealize.SL.Sem

variable {F : FTy → Type} [FloatOps F] [Named F]

/-- One batch member of a volume, as the block meets it: 6400 rows of 80. -/
def slab (x : FVec F S2x1x80x80x80 .f32) (b : Fin 2) : Vec F S1x6400x80 .f32 :=
  fun j => shapeCast S2x6400x80 x shapeCasts_S2x1x80x80x80_S2x6400x80 (ix3 b (j 1) (j 2))

/-- The launch's result array: one mutual-information sum a batch member. -/
def terms (x0 x1 : FVec F S2x1x80x80x80 .f32) : FVec F S2x1x1 .f32 :=
  fun i => Body.block (slab x0 (i 0)) (slab x1 (i 0)) (ix3 0 0 0)

/-- The program's result: the negated mean of the two terms. -/
def result (x0 x1 : FVec F S2x1x80x80x80 .f32) : FVec F S_ .f32 :=
  Host.negf (Host.divf (Host.reduceAdd (terms x0 x1) (constant S_ .f32 0x00000000#32) reducesTo_S2x1x1_S_d0_1_2 h_S_)
    (constant S_ .f32 0x40000000#32))

variable (m : (ℓ : Loc nD τ sig) → Buf (Elt F) ℓ) (ρ : Dev nD → PrngReg)

/-- Each point's blocks are the point's own batch member. -/
theorem idx : ∀ t : Fin grid0.N, win0_0.index t = ![t.val, 0, 0] ∧ win0_1.index t = ![t.val, 0, 0]
    ∧ win0_2.index t = ![t.val, 0, 0] := by decide +kernel

/-- The first volume's block at a point. -/
theorem iblk0 (c : Dev nD) (t : Fin grid0.N) :
    iblk m c 0 t = slab (m ((c : Thread nD τ).loc main_arg0)) t := by
  funext y
  unfold slab
  blk_ext [iblk, V, idx t]

/-- The second volume's. -/
theorem iblk1 (c : Dev nD) (t : Fin grid0.N) :
    iblk m c 1 t = slab (m ((c : Thread nD τ).loc main_arg1)) t := by
  funext y
  unfold slab
  blk_ext [iblk, V, idx t]

/-- The result array after the launch. -/
theorem arr_eq (c : Dev nD) : (dats m 0 c).arrAt 2 cfg0.N
    = terms (m ((c : Thread nD τ).loc main_arg0)) (m ((c : Thread nD τ).loc main_arg1)) := by
  refine (dats m 0 c).arrAt_eq_of_covers 2 _ (by decide +kernel) fun t hf y => ?_
  blk_simp
  rw [after0_2, outsAt0, Body.out_eq, iblk0, iblk1]
  unfold terms
  have e : (win0_2.blk t).view.emb y 0 = t := Fin.ext (by blk_simp [idx t])
  rw [e]
  congr 1
  blk_ext []

/-- The program's result buffer after the host operations that follow the launch. -/
theorem tail_eq (c : Dev nD) : Pipeline.afterTail₀ cfgs (dats m) 0 (V0 m) [hostOps1] c main_v5
    = result (m ((c : Thread nD τ).loc main_arg0)) (m ((c : Thread nD τ).loc main_arg1)) := by
  have h2 : Pipeline.withArrays spec0 c (V0 m c) (fun w => (dats m 0 c).arrAt w cfg0.N) (Proc.devRef .tc main_v2)
      = terms (m ((c : Thread nD τ).loc main_arg0)) (m ((c : Thread nD τ).loc main_arg1)) :=
    (Pipeline.withArrays_arr spec0 (by decide) c _ _ 2).trans (arr_eq m c)
  unfold Pipeline.afterTail₀ result
  rw [← h2]
  change StableHlo.after hostOps1 (Pipeline.withArrays spec0 c (V0 m c) fun w => (dats m 0 c).arrAt w cfg0.N)
    (Proc.devRef .tc main_v5) = _
  generalize Pipeline.withArrays spec0 c (V0 m c) (fun w => (dats m 0 c).arrAt w cfg0.N) = W
  after_results

/-- From any memory with zero counters the program runs to its end, with its result as stated and its arguments kept. -/
theorem run : θ_run defs (onTc (τ := τ) (main (F := F))) ⟨m, fun _ => 0, ρ⟩ fun r => ∀ c : Dev nD,
      r.2.mem ((c : Thread nD τ).loc main_v5)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 (by decide) (by decide))).trans (tail_eq m c),
     ((h c).2 main_arg0 (Pipeline.mem_restRefs_of main_arg0 (by decide) (by decide))).trans (W_main_arg0 m _ c),
     ((h c).2 main_arg1 (Pipeline.mem_restRefs_of main_arg1 (by decide) (by decide))).trans (W_main_arg1 m _ c)⟩)
    (run_main m ρ)

end Cert.KernelIdeal.Launch

end
-- ==== Proof.Consts.lean ====
/- The float constants of the two programs as extended reals: what each bit pattern denotes, and the reals that the
   kernel's named constants stand for. -/
module

public import proofs.«01_k».proof.KernelIdeal
public import Idealize.ShloMosaic.PureOps.Ideal
public import Idealize.ShloMosaic.PureOps.IdealRules

@[expose] public section

noncomputable section

namespace Cert.Consts

open Idealize.ShloMosaic

/-- The pattern of `1.0` denotes 1. -/
theorem one : Ideal.ofBits .f32 0x3F800000#32 = 1 := by
  refine Eq.trans (b := ((1 : ℝ) : EReal)) ?_ EReal.coe_one
  simp [Ideal.ofBits, Ideal.ieee, -EReal.coe_mul, -EReal.coe_one]; norm_num

/-- The pattern of `2.0` denotes 2. -/
theorem two : Ideal.ofBits .f32 0x40000000#32 = ((2 : ℝ) : EReal) := by
  simp [Ideal.ofBits, Ideal.ieee, -EReal.coe_mul]; norm_num

/-- The pattern of `31.0` denotes 31. -/
theorem thirtyOne : Ideal.ofBits .f32 0x41F80000#32 = ((31 : ℝ) : EReal) := by
  simp [Ideal.ofBits, Ideal.ieee, -EReal.coe_mul]; norm_num

/-- The pattern of `512000.0` denotes 512000, the number of voxels of one volume. -/
theorem voxels : Ideal.ofBits .f32 0x48FA0000#32 = ((512000 : ℝ) : EReal) := by
  simp [Ideal.ofBits, Ideal.ieee, -EReal.coe_mul]; norm_num

/-- The reference's `preterm` denotes the rational 15745025/8192 = 1922.0001220703125. -/
theorem preterm : Ideal.ofBits .f32 0x44F04001#32 = ((15745025 / 8192 : ℝ) : EReal) := by
  simp [Ideal.ofBits, Ideal.ieee, -EReal.coe_mul]; norm_num

/-- The pattern a minimum starts from denotes plus infinity. -/
theorem top : Ideal.ofBits .f32 0x7F800000#32 = ⊤ := by
  simp [Ideal.ofBits, Ideal.ieee, -EReal.coe_mul]

/-- The pattern a maximum starts from denotes minus infinity. -/
theorem bot : Ideal.ofBits .f32 0xFF800000#32 = ⊥ := by
  simp [Ideal.ofBits, Ideal.ieee, -EReal.coe_mul]

/-- The kernel's distance between two neighbouring bin centres is 1/31. -/
theorem binWidth : Named.named (F := Ideal) Cert.KernelIdeal.κ "bin_width" (φ := .f32) 0x3D042108#32 = ((1 / 31 : ℝ) : EReal) :=
  IdealRules.named_const.ideal_named_scalar _ _ _ _ rfl

/-- The kernel's factor in the exponent of 2 is `-preterm / log 2`. -/
theorem negPretermLog2e : Named.named (F := Ideal) Cert.KernelIdeal.κ "neg_preterm_log2e" (φ := .f32) 0xC52D4DC3#32
    = ((-((15745025 / 8192) * (Real.log 2)⁻¹) : ℝ) : EReal) :=
  IdealRules.named_const.ideal_named_scalar _ _ _ _ rfl

/-- The kernel's factor that turns a sum over the voxels into a mean is 1/512000. -/
theorem invN : Named.named (F := Ideal) Cert.KernelIdeal.κ "inv_n" (φ := .f32) 0x3603126F#32 = ((1 / 512000 : ℝ) : EReal) :=
  IdealRules.named_const.ideal_named_scalar _ _ _ _ rfl

/-- An index below 32, converted to a float, is that number. -/
theorem iota {k : Nat} (hk : k < 32) : FloatOps.sitofp (F := Ideal) .f32 (BitVec.ofNat 32 k) = ((k : ℝ) : EReal) := by
  have h : (BitVec.ofNat 32 k).toInt = (k : Int) := by
    rw [BitVec.toInt_eq_toNat_of_lt (by rw [BitVec.toNat_ofNat]; omega), BitVec.toNat_ofNat]
    omega
  show (((BitVec.ofNat 32 k).toInt : ℝ) : EReal) = _
  rw [h]; norm_cast

end Cert.Consts

end
-- ==== Proof.Parzen.lean ====
/- The mathematics both programs compute, on the extended reals: the Parzen weights of a voxel over 32 bins, the mean
   marginal and joint histograms of a pair of volumes, and the mutual information they give. No program is mentioned
   here; the modules on the kernel's and the reference's values end in these words. -/
module

public import Idealize.ShloMosaic.PureOps.Ideal
public import Idealize.ShloMosaic.Lib.Pointwise

@[expose] public section

noncomputable section

namespace Cert.Parzen

open Idealize.ShloMosaic

/-- A value clipped to the unit interval. -/
def clip (x : EReal) : EReal := min 1 (max 0 x)

/-- The clipped value as a real number. -/
def unit (x : EReal) : ℝ := (clip x).toReal

/-- Clipping makes any extended real a real number. -/
theorem coe_unit (x : EReal) : ((unit x : ℝ) : EReal) = clip x := by
  refine EReal.coe_toReal (fun h => ?_) (fun h => ?_)
  · have : clip x ≤ 1 := min_le_left _ _
    rw [h] at this
    exact absurd this (not_le.2 (EReal.coe_lt_top 1))
  · have : (0 : EReal) ≤ clip x := le_min zero_le_one (le_max_left _ _)
    rw [h] at this
    exact absurd this (not_le.2 EReal.bot_lt_zero)

/-- The Gaussian of the distance from `r` to the centre `k/31` of bin `k`. -/
def bump (r : ℝ) (k : Fin 32) : ℝ := Real.exp (-(15745025 / 8192) * ((r - (k.val : ℝ) / 31) * (r - (k.val : ℝ) / 31)))

/-- The Parzen weight that the value `x` gives to bin `k`: its Gaussian over the sum of the 32 Gaussians. -/
def weight (x : EReal) (k : Fin 32) : EReal := Ideal.div (bump (unit x) k) (∑ j : Fin 32, ((bump (unit x) j : ℝ) : EReal))

/-- The voxels of a pair of volumes: `v b n` is voxel `n` of volume `b`. -/
abbrev Voxels := Fin 2 → Fin 512000 → EReal

/-- The voxels of an array of two volumes of side 80, each numbered row by row. -/
def voxels (x : (⟨5, ![2, 1, 80, 80, 80]⟩ : Shape).Idx → EReal) : Voxels := fun b n =>
  x (ix5 b 0 ⟨n.val / 6400, by omega⟩ ⟨n.val / 80 % 80, by omega⟩ ⟨n.val % 80, by omega⟩)

/-- The mean weight of bin `i` over the voxels of volume `b`. -/
def marginal (X : Voxels) (b : Fin 2) (i : Fin 32) : EReal := (∑ n, weight (X b n) i) * ((1 / 512000 : ℝ) : EReal)

/-- The mean over the voxels of volume `b` of the product of the weight of bin `i` in `X` and of bin `j` in `Y`. -/
def joint (X Y : Voxels) (b : Fin 2) (i j : Fin 32) : EReal :=
  (∑ n, weight (X b n) i * weight (Y b n) j) * ((1 / 512000 : ℝ) : EReal)

/-- What bins `i` and `j` add to the mutual information of volume `b`, with `ε` as the programs add it. -/
def cell (ε : EReal) (X Y : Voxels) (b : Fin 2) (i j : Fin 32) : EReal :=
  joint X Y b i j * Ideal.log (Ideal.div (joint X Y b i j + ε) (marginal X b i * marginal Y b j + ε) + ε)

/-- The mutual information of volume `b`. -/
def info (ε : EReal) (X Y : Voxels) (b : Fin 2) : EReal := ∑ i : Fin 32, ∑ j : Fin 32, cell ε X Y b i j

/-- The loss: minus the mean of the mutual information over the two volumes. -/
def loss (ε two : EReal) (X Y : Voxels) : EReal := -(Ideal.div (∑ b : Fin 2, info ε X Y b) two)

/-- The kernel's exponential: 2 to the power `(d K) d` with `K = -p / log 2` is `exp (-p d²)`. -/
theorem exp2_eq (p d : ℝ) :
    Ideal.exp2 ((d : EReal) * ((-(p * (Real.log 2)⁻¹) : ℝ) : EReal) * (d : EReal)) = ((Real.exp (-p * (d * d)) : ℝ) : EReal) := by
  rw [← EReal.coe_mul, ← EReal.coe_mul, Ideal.exp2_coe]
  congr 1
  change (2 : ℝ) ^ (d * -(p * (Real.log 2)⁻¹) * d) = _
  rw [Real.rpow_def_of_pos (by norm_num)]
  congr 1
  have h : Real.log 2 ≠ 0 := (Real.log_pos (by norm_num)).ne'
  field_simp

end Cert.Parzen

end
-- ==== Proof.Histogram.lean ====
/- The kernel's accumulators on the extended reals: after the ten trips they hold the sums of the Parzen weights, and of
   their products, over the voxels of the block. -/
module

public import proofs.«01_k».proof.Proof.Loop
public import proofs.«01_k».proof.Proof.Consts
public import proofs.«01_k».proof.Proof.Parzen
public import Idealize.ShloMosaic.Lib.Pipeline.ValueKit

@[expose] public section

set_option maxRecDepth 16384

noncomputable section

namespace Cert.KernelIdeal.Histogram

open Cert.KernelIdeal Cert.KernelIdeal.Gen Idealize.ShloMosaic Idealize.ShloMosaic.TcCoe Idealize.SL.Sem

/-- A column of the kernel's weights holds the Parzen weights of the voxel whose clipped value stands in the row. -/
theorem weight_apply (r : FVec Ideal S1x6400 .f32) (x : EReal) (w : Fin 6400) (hr : r (ix2 0 w) = Parzen.clip x) (k : Fin 32) :
    Body.weight (F := Ideal) r (ix2 k w) = Parzen.weight x k := by
  have hb : ∀ j : Fin 32, FloatOps.exp2 (F := Ideal) (φ := .f32)
      ((r (ix2 0 w) - FloatOps.sitofp (F := Ideal) .f32 (BitVec.ofNat 32 j.val) * Named.named (F := Ideal) κ "bin_width" (φ := .f32) 0x3D042108#32)
        * Named.named (F := Ideal) κ "neg_preterm_log2e" (φ := .f32) 0xC52D4DC3#32
        * (r (ix2 0 w) - FloatOps.sitofp (F := Ideal) .f32 (BitVec.ofNat 32 j.val) * Named.named (F := Ideal) κ "bin_width" (φ := .f32) 0x3D042108#32))
      = ((Parzen.bump (Parzen.unit x) j : ℝ) : EReal) := fun j => by
    rw [hr, ← Parzen.coe_unit, Consts.iota j.isLt, Consts.binWidth, Consts.negPretermLog2e, ← EReal.coe_mul, ← EReal.coe_sub]
    refine (Parzen.exp2_eq _ _).trans ?_
    unfold Parzen.bump
    rw [mul_one_div]
  unfold Body.weight k0_pay2 k0_pay39
  pointwise
  unfold Parzen.weight
  rw [hb k]
  exact congrArg _ (Finset.sum_congr rfl fun j _ => hb j)

/-- The product of two rows' weights at bins `i` and `j` is the sum over the row. -/
theorem dot_apply (a b : FVec Ideal S32x6400 .f32) (i j : Fin 32) :
    Body.dot (F := Ideal) a b (ix2 i j) = ∑ w : Fin 6400, a (ix2 i w) * b (ix2 j w) := by
  unfold Body.dot
  pointwise

/-- Eight summands added in pairs are their sum. -/
theorem tree_apply {S : Shape} (f : Fin 8 → FVec Ideal S .f32) (i : S.Idx) : Body.tree f i = ∑ j : Fin 8, f j i := by
  rw [Fin.sum_univ_eight]
  show ((f 0 i + f 1 i) + (f 2 i + f 3 i)) + ((f 4 i + f 5 i) + (f 6 i + f 7 i)) = _
  simp only [add_assoc]

/-- Row `j` of trip `k` is row `8 k + j` of the transposed volume. -/
theorem row_apply (X : Vec Ideal S80x6400 .f32) (k : Fin k0_t1_loop.trips) (j : Fin 8) (w : Fin 6400) :
    Body.row (F := Ideal) X k j (ix2 0 w) = X (ix2 ⟨k.val * 8 + j.val, by have := k.isLt; have : k0_t1_loop.trips = 10 := by decide
                                                                          omega⟩ w) := by
  have h : ∀ (k : Fin k0_t1_loop.trips) (j : Fin 8), k0_off1 k (BitVec.ofNat 32 j.val) 0 = k.val * 8 + j.val := by decide +kernel
  refine View.ld_unit_apply_of _ _ _ _ _ _ fun a => ?_
  match a with
  | ⟨0, _⟩ => exact (h k j).symm
  | ⟨1, _⟩ => exact (Nat.zero_add _).symm

/-- An accumulator of weights after `k` trips: what it held, and the weights of the rows read. -/
theorem margAt_apply (X : Vec Ideal S80x6400 .f32) (P : Vec Ideal S32x6400 .f32) (i : S32x6400.Idx) :
    ∀ (k : ℕ) (h : k ≤ k0_t1_loop.trips), Body.margAt (F := Ideal) X P k i
      = P i + ∑ t : Fin k, ∑ j : Fin 8, Body.weight (F := Ideal) (Body.row X ⟨t.val, t.isLt.trans_le h⟩ j) i
  | 0, _ => (add_zero _).symm
  | k + 1, h => by
    rw [Body.margAt_succ X P ⟨k, h⟩, Fin.sum_univ_castSucc, ← add_assoc]
    refine Eq.trans ?_ (congrArg (· + _) (margAt_apply X P i k (Nat.le_of_succ_le h)))
    exact congrArg _ (tree_apply _ i)

/-- The accumulator of products after `k` trips: what it held, and the products of the rows read. -/
theorem jointAt_apply (X Y : Vec Ideal S80x6400 .f32) (A : Vec Ideal S32x32 .f32) (i : S32x32.Idx) :
    ∀ (k : ℕ) (h : k ≤ k0_t1_loop.trips), Body.jointAt (F := Ideal) X Y A k i
      = A i + ∑ t : Fin k, ∑ j : Fin 8, Body.dot (F := Ideal) (Body.weight (Body.row X ⟨t.val, t.isLt.trans_le h⟩ j))
          (Body.weight (Body.row Y ⟨t.val, t.isLt.trans_le h⟩ j)) i
  | 0, _ => (add_zero _).symm
  | k + 1, h => by
    rw [Body.jointAt_succ X Y A ⟨k, h⟩, Fin.sum_univ_castSucc, ← add_assoc]
    refine Eq.trans ?_ (congrArg (· + _) (jointAt_apply X Y A i k (Nat.le_of_succ_le h)))
    exact congrArg _ (tree_apply _ i)

/-- A transposed volume holds, in row `r` and column `w`, the clipped value of voxel `80 w + r`. -/
def Holds (X : Vec Ideal S80x6400 .f32) (v : Fin 512000 → EReal) : Prop :=
  ∀ (r : Fin 80) (w : Fin 6400), X (ix2 r w) = Parzen.clip (v ⟨w.val * 80 + r.val, by omega⟩)

/-- The rows of ten trips of eight, and the columns, are the voxels. -/
theorem sum_voxels (f : Fin 512000 → EReal) :
    ∑ w : Fin 6400, ∑ t : Fin 10, ∑ j : Fin 8, f ⟨w.val * 80 + (t.val * 8 + j.val), by omega⟩ = ∑ n, f n := by
  rw [← Fin.sum_mul_add_fin 6400 80 f (by decide)]
  refine Finset.sum_congr rfl fun w _ => ?_
  exact Fin.sum_mul_add_fin 10 8 (fun r : Fin 80 => f ⟨w.val * 80 + r.val, by omega⟩) rfl

/-- The weights of bin `i`, accumulated over ten trips from zeros and summed over the columns: the sum over the voxels. -/
theorem marginal_sum (X : Vec Ideal S80x6400 .f32) (v : Fin 512000 → EReal) (hX : Holds X v) (P : Vec Ideal S32x6400 .f32)
    (hP : ∀ i, P i = 0) (i : Fin 32) :
    ∑ w : Fin 6400, Body.margAt (F := Ideal) X P 10 (ix2 i w) = ∑ n, Parzen.weight (v n) i := by
  rw [← sum_voxels fun n => Parzen.weight (v n) i]
  refine Finset.sum_congr rfl fun w _ => ?_
  rw [margAt_apply X P _ 10 (by decide), hP, zero_add]
  refine Finset.sum_congr rfl fun t _ => Finset.sum_congr rfl fun j _ => ?_
  exact weight_apply _ _ w ((row_apply X _ j w).trans (hX _ w)) i

/-- The products for bins `i` and `j`, accumulated over ten trips from zeros: the sum over the voxels. -/
theorem joint_sum (X Y : Vec Ideal S80x6400 .f32) (u v : Fin 512000 → EReal) (hX : Holds X u) (hY : Holds Y v)
    (A : Vec Ideal S32x32 .f32) (hA : ∀ i, A i = 0) (i j : Fin 32) :
    Body.jointAt (F := Ideal) X Y A 10 (ix2 i j) = ∑ n, Parzen.weight (u n) i * Parzen.weight (v n) j := by
  rw [← sum_voxels fun n => Parzen.weight (u n) i * Parzen.weight (v n) j, jointAt_apply X Y A _ 10 (by decide), hA, zero_add]
  refine Eq.trans ?_ Finset.sum_comm
  refine Finset.sum_congr rfl fun t _ => Eq.trans ?_ Finset.sum_comm
  refine Finset.sum_congr rfl fun r _ => ?_
  rw [dot_apply]
  refine Finset.sum_congr rfl fun w _ => ?_
  exact congrArg₂ (· * ·) (weight_apply _ _ w ((row_apply X _ r w).trans (hX _ w)) i)
    (weight_apply _ _ w ((row_apply Y _ r w).trans (hY _ w)) j)

end Cert.KernelIdeal.Histogram

end
-- ==== Proof.KernelValue.lean ====
/- What the kernel returns, on the extended reals: the loss of the two arrays' voxels. -/
module

public import proofs.«01_k».proof.Proof.Launch
public import proofs.«01_k».proof.Proof.Histogram

@[expose] public section

set_option maxRecDepth 16384

noncomputable section

namespace Cert.KernelIdeal.KernelValue

open Cert.KernelIdeal Cert.KernelIdeal.Gen Idealize.ShloMosaic Idealize.ShloMosaic.TcCoe Idealize.SL.Sem

/-- The number both programs add to the two quotients' parts and to the quotient. -/
abbrev eps : EReal := Ideal.ofBits .f32 0x33D6BF95#32

/-- The first volume of a block, transposed and clipped. -/
theorem holds_first (x : FVec Ideal S2x1x80x80x80 .f32) (b : Fin 2) :
    Histogram.Holds (k0_pay37 (F := Ideal) (Launch.slab x b)) (Parzen.voxels x b) := fun r w => by
  unfold k0_pay37 Launch.slab
  pointwise
  refine congrArg (fun y => min 1 (max 0 y)) ?_
  unfold Parzen.voxels
  blk_ext []

/-- The second volume of a block, transposed and clipped. -/
theorem holds_second (x : FVec Ideal S2x1x80x80x80 .f32) (b : Fin 2) :
    Histogram.Holds (k0_pay38 (F := Ideal) (Launch.slab x b)) (Parzen.voxels x b) := holds_first x b

/-- A sum over the bins that keeps the summand of bin `j` only is that summand. -/
theorem sum_diagonal (f : Fin 32 → EReal) (j : Fin 32) :
    ∑ i : Fin 32, Scalar.select (IntOp.cmpi .eq (BitVec.ofNat 32 i.val) (BitVec.ofNat 32 j.val)) (f i) 0 = f j := by
  rw [Finset.sum_eq_single j]
  · have : ∀ j : Fin 32, IntOp.cmpi .eq (BitVec.ofNat 32 j.val) (BitVec.ofNat 32 j.val) = 1#1 := by decide
    rw [this]; rfl
  · intro i _ h
    have : ∀ i j : Fin 32, i ≠ j → IntOp.cmpi .eq (BitVec.ofNat 32 i.val) (BitVec.ofNat 32 j.val) = 0#1 := by decide
    rw [this i j h]; rfl
  · intro h; exact absurd (Finset.mem_univ j) h

/-- The end of a block: from accumulators whose sums are the voxels' sums, the mutual information. -/
theorem tail (A : FVec Ideal S32x32 .f32) (P Q : FVec Ideal S32x6400 .f32) (X Y : Parzen.Voxels) (b : Fin 2)
    (hA : ∀ i j, A (ix2 i j) = ∑ n, Parzen.weight (X b n) i * Parzen.weight (Y b n) j)
    (hP : ∀ i, ∑ w : Fin 6400, P (ix2 i w) = ∑ n, Parzen.weight (X b n) i)
    (hQ : ∀ i, ∑ w : Fin 6400, Q (ix2 i w) = ∑ n, Parzen.weight (Y b n) i) :
    k0_pay1 (F := Ideal) (k0_pay41 A) (k0_pay42 A P Q) (ix3 0 0 0) = Parzen.info eps X Y b := by
  unfold k0_pay1 k0_pay42 k0_pay41
  pointwise
  refine Finset.sum_congr rfl fun i _ => Finset.sum_congr rfl fun j _ => ?_
  rw [sum_diagonal (fun x => (∑ w : Fin 6400, Q (ix2 x w)) * Named.named (F := Ideal) κ "inv_n" (φ := .f32) 0x3603126F#32) j,
    hA, hP, hQ, Consts.invN]
  rfl

/-- Block `b`'s result is the mutual information of volume `b`. -/
theorem block_eq (x0 x1 : FVec Ideal S2x1x80x80x80 .f32) (b : Fin 2) :
    Body.block (F := Ideal) (Launch.slab x0 b) (Launch.slab x1 b) (ix3 0 0 0)
      = Parzen.info eps (Parzen.voxels x0) (Parzen.voxels x1) b := by
  have z4 : ∀ i, k0_pay34 (F := Ideal) i = 0 := fun i => by unfold k0_pay34; pointwise
  have z5 : ∀ i, k0_pay35 (F := Ideal) i = 0 := fun i => by unfold k0_pay35; pointwise
  have z6 : ∀ i, k0_pay36 (F := Ideal) i = 0 := fun i => by unfold k0_pay36; pointwise
  exact tail _ _ _ _ _ b (Histogram.joint_sum _ _ _ _ (holds_first x0 b) (holds_second x1 b) _ z4)
    (Histogram.marginal_sum _ _ (holds_first x0 b) _ z5) (Histogram.marginal_sum _ _ (holds_second x1 b) _ z6)

/-- The kernel's result is the loss of the voxels. -/
theorem result_eq (x0 x1 : FVec Ideal S2x1x80x80x80 .f32) :
    Launch.result (F := Ideal) x0 x1
      = fun _ => Parzen.loss eps (Ideal.ofBits .f32 0x40000000#32) (Parzen.voxels x0) (Parzen.voxels x1) := by
  funext i
  unfold Launch.result
  pointwise
  unfold Parzen.loss Launch.terms
  refine congrArg (fun y => -(Ideal.div y _)) (Finset.sum_congr rfl fun b _ => ?_)
  rw [Fin.sum_univ_one, Fin.sum_univ_one]
  exact block_eq x0 x1 b

end Cert.KernelIdeal.KernelValue

end
-- ==== Proof.Range.lean ====
/- The precondition: both volumes lie in the unit interval. Then the reference neither shifts nor scales its volumes. -/
module

public import proofs.«01_k».proof.Proof.Gen.ReferenceIdeal.Read
public import proofs.«01_k».proof.Proof.Gen.Pre_in_range
public import proofs.«01_k».proof.Proof.Consts
public import Idealize.ShloMosaic.Lib.ReduceAll
public import Idealize.ShloMosaic.Lib.Pointwise

@[expose] public section

noncomputable section

namespace Cert.Range

open Cert.ReferenceIdeal Cert.ReferenceIdeal.Gen Cert.ReferenceIdeal.Read Idealize.ShloMosaic Idealize.ShloMosaic.TcCoe
  Idealize.SL.Sem

/-- Every element lies in the unit interval. -/
def InUnit (x : FVec Ideal S2x1x80x80x80 .f32) : Prop := ∀ i, 0 ≤ x i ∧ x i ≤ 1

/-- A bit that is 1 decides its proposition. -/
theorem of_bit {p : Prop} [Decidable p] (h : BitVec.ofBool (decide p) = 1#1) : p := by
  by_contra hp
  rw [decide_eq_false hp] at h
  exact absurd h (by decide)

/-- A proposition that fails gives the bit 0. -/
theorem bit_zero {p : Prop} [Decidable p] (hp : ¬p) : BitVec.ofBool (decide p) = 0#1 := by
  rw [decide_eq_false hp]; rfl

/-- The precondition of one volume, "every element at least 0" and "every element at most 1", read at an element. -/
theorem inUnit_of_all (x : FVec Ideal S2x1x80x80x80 .f32) (j : S_.Idx)
    (h0 : Host.reduce IntOp.andi (cmpf .oge x (broadcastInDim S2x1x80x80x80 ![] Cert.Pre_in_range.Facts.bcast_S_S2x1x80x80x80
        (constant S_ .f32 0x00000000#32)))
      (constantI S_ 1 1#1) Cert.Pre_in_range.Facts.reducesTo_S2x1x80x80x80_S_d0_1_2_3_4 Cert.Pre_in_range.Facts.h_S_ j = 1#1)
    (h1 : Host.reduce IntOp.andi (cmpf .ole x (broadcastInDim S2x1x80x80x80 ![] Cert.Pre_in_range.Facts.bcast_S_S2x1x80x80x80
        (constant S_ .f32 0x3F800000#32)))
      (constantI S_ 1 1#1) Cert.Pre_in_range.Facts.reducesTo_S2x1x80x80x80_S_d0_1_2_3_4 Cert.Pre_in_range.Facts.h_S_ j = 1#1) :
    InUnit x := fun i => by
  have e0 := Host.reduce_andi_all _ _ _ _ j h0 i
  have e1 := Host.reduce_andi_all _ _ _ _ j h1 i
  pointwise at e0
  pointwise at e1
  exact ⟨of_bit e0, of_bit e1⟩

/-- The precondition says that both volumes lie in the unit interval. -/
theorem inUnit_of_pre (x0 x1 : FVec Ideal S2x1x80x80x80 .f32) (h : Cert.Pre_in_range.fn (F := Ideal) x0 x1 = fun _ => 1#1) :
    InUnit x0 ∧ InUnit x1 := by
  have h' := congrFun h ix0
  dsimp only [Cert.Pre_in_range.fn] at h'
  obtain ⟨h012, h3⟩ := IntOp.andi_eq_one.1 h'
  obtain ⟨h01, h2⟩ := IntOp.andi_eq_one.1 h012
  obtain ⟨h0, h1⟩ := IntOp.andi_eq_one.1 h01
  exact ⟨inUnit_of_all x0 _ h0 h1, inUnit_of_all x1 _ h2 h3⟩

/-- The least element of a volume in the unit interval is at least 0. -/
theorem least_nonneg (x : FVec Ideal S2x1x80x80x80 .f32) (hx : InUnit x) (i : S_.Idx) : 0 ≤ val_main_v1 (F := Ideal) x i := by
  unfold val_main_v1
  rw [Host.reduce_eq_fold]
  refine (Finset.le_fold_min 0).2 ⟨?_, fun j _ => (hx j).1⟩
  refine le_of_le_of_eq le_top (Eq.symm ?_)
  exact Consts.top

/-- The greatest element of a volume in the unit interval is at most 1. -/
theorem greatest_le_one (x : FVec Ideal S2x1x80x80x80 .f32) (hx : InUnit x) (i : S_.Idx) : val_main_v4 (F := Ideal) x i ≤ 1 := by
  unfold val_main_v4
  rw [Host.reduce_eq_fold]
  refine (Finset.fold_max_le 1).2 ⟨?_, fun j _ => (hx j).2⟩
  refine le_of_eq_of_le ?_ bot_le
  exact Consts.bot

/-- The second volume's least element is taken as the first's is. -/
theorem least_second (x : FVec Ideal S2x1x80x80x80 .f32) : val_main_v2 (F := Ideal) x = val_main_v1 x := by
  unfold val_main_v2 val_main_v1 val_main_cst_1 val_main_cst_2
  generalize constant (F := Ideal) S_ .f32 0x7F800000#32 = y
  rfl

/-- The second volume's greatest element is taken as the first's is. -/
theorem greatest_second (x : FVec Ideal S2x1x80x80x80 .f32) : val_main_v5 (F := Ideal) x = val_main_v4 x := by
  unfold val_main_v5 val_main_v4 val_main_cst_3 val_main_cst_4
  generalize constant (F := Ideal) S_ .f32 0xFF800000#32 = y
  rfl

/-- "The greatest exceeds 1 or the least is below 0" fails when both volumes' extremes lie in the unit interval. -/
theorem branch (a b c d : Ideal .f32) (ha : (0 : EReal) ≤ a) (hb : (0 : EReal) ≤ b) (hc : (c : EReal) ≤ 1) (hd : (d : EReal) ≤ 1) :
    IntOp.ori (FloatOps.cmpf .ogt (FloatOps.maximumf c d) (FloatOps.ofBits .f32 0x3F800000#32))
      (FloatOps.cmpf .olt (FloatOps.minimumf a b) (FloatOps.ofBits .f32 0x00000000#32)) = 0#1 := by
  have e7 : FloatOps.cmpf (F := Ideal) .ogt (FloatOps.maximumf c d) (FloatOps.ofBits .f32 0x3F800000#32) = 0#1 := by
    have h : ¬(Ideal.ofBits .f32 0x3F800000#32 < max c d) := by rw [Consts.one]; exact not_lt.2 (max_le hc hd)
    exact bit_zero h
  have e8 : FloatOps.cmpf (F := Ideal) .olt (FloatOps.minimumf a b) (FloatOps.ofBits .f32 0x00000000#32) = 0#1 := by
    have h : ¬(min a b < Ideal.ofBits .f32 0x00000000#32) := by rw [Ideal.ofBits_zero_f32]; exact not_lt.2 (le_min ha hb)
    exact bit_zero h
  rw [e7, e8]
  decide

/-- A selection by the bit 0 is its second value. -/
theorem select_zero (a b : Ideal .f32) : Scalar.select 0#1 a b = b := rfl

variable (x0 x1 : FVec Ideal S2x1x80x80x80 .f32) (h0 : InUnit x0) (h1 : InUnit x1)

include h0 h1

/-- The reference takes the branch without rescaling. -/
theorem no_rescale (i : S_.Idx) : val_main_v9 (F := Ideal) x0 x1 i = 0#1 := by
  have a := least_nonneg x0 h0 i
  have b := least_nonneg x1 h1 i
  have c := greatest_le_one x0 h0 i
  have d := greatest_le_one x1 h1 i
  rw [val_main_v9_apply, val_main_v7_apply, val_main_v8_apply, val_main_v6_apply, val_main_v3_apply, val_main_cst_5_apply,
    val_main_cst_6_apply, least_second, greatest_second]
  generalize val_main_v1 (F := Ideal) x0 i = a' at a ⊢
  generalize val_main_v1 (F := Ideal) x1 i = b' at b ⊢
  generalize val_main_v4 (F := Ideal) x0 i = c' at c ⊢
  generalize val_main_v4 (F := Ideal) x1 i = d' at d ⊢
  exact branch a' b' c' d' a b c d

/-- What the reference subtracts is 0. -/
theorem shift (i : S_.Idx) : val_main_v12 (F := Ideal) x0 x1 i = 0 := by
  rw [val_main_v12_apply, no_rescale x0 x1 h0 h1, select_zero, val_main_call2_v0_apply, val_main_cst_8_apply]
  exact Ideal.ofBits_zero_f32

/-- What the reference divides by is 1. -/
theorem scale (i : S_.Idx) : val_main_v11 (F := Ideal) x0 x1 i = 1 := by
  rw [val_main_v11_apply, no_rescale x0 x1 h0 h1, select_zero, val_main_call1_v0_apply, val_main_cst_7_apply]
  exact Consts.one

omit h0 h1 in
/-- Nothing subtracted and divided by 1. -/
theorem div_one (x : EReal) : Ideal.div (x - 0) 1 = x := by
  rw [sub_zero, ← EReal.coe_one, Ideal.div_coe one_ne_zero, one_div_one, EReal.coe_one, mul_one]

/-- The reference's first volume is unchanged. -/
theorem first (i : S2x1x80x80x80.Idx) : val_main_v16 (F := Ideal) x0 x1 i = x0 i := by
  rw [val_main_v16_apply, val_main_v14_apply, val_main_v15_apply, val_main_v13_apply, scale x0 x1 h0 h1, shift x0 x1 h0 h1]
  exact div_one _

/-- The reference's second volume is unchanged. -/
theorem second (i : S2x1x80x80x80.Idx) : val_main_v20 (F := Ideal) x0 x1 i = x1 i := by
  rw [val_main_v20_apply, val_main_v18_apply, val_main_v19_apply, val_main_v17_apply, scale x0 x1 h0 h1, shift x0 x1 h0 h1]
  exact div_one _

end Cert.Range

end
-- ==== Proof.Reference.lean ====
/- What the reference computes, on the extended reals, of two arrays in the unit interval: its bin centres and the weights
   of each voxel. -/
module

public import proofs.«01_k».proof.Proof.Range
public import proofs.«01_k».proof.Proof.Parzen

@[expose] public section

noncomputable section

namespace Cert.Reference

open Cert.ReferenceIdeal Cert.ReferenceIdeal.Gen Cert.ReferenceIdeal.Read Idealize.ShloMosaic Idealize.ShloMosaic.TcCoe
  Idealize.SL.Sem

/-- The first 31 bin centres: bin `k`'s is `k/31`. -/
theorem centre_init (k : Fin 31) : val_main_call0_v15 (F := Ideal) (ix1 k) = (((k.val : ℝ) / 31 : ℝ) : EReal) := by
  pointwise [val_main_call0_v15, val_main_call0_v14, val_main_call0_v13, val_main_call0_v12, val_main_call0_v11,
    val_main_call0_v10, val_main_call0_v9, val_main_call0_v8, val_main_call0_v7, val_main_call0_v6, val_main_call0_v5,
    val_main_call0_v4, val_main_call0_v3, val_main_call0_v2, val_main_call0_v1, val_main_call0_v0, val_main_cst,
    val_main_cst_0, val_main_call0_cst, val_main_call0_cst_0, val_main_call0_cst_1, id]
  rw [Consts.iota (by omega), Consts.thirtyOne, Ideal.div_coe (by norm_num), ← EReal.coe_mul, zero_mul, zero_add, mul_one_div]

/-- The last bin centre is 1. -/
theorem centre_last : val_main_call0_v16 (F := Ideal) (ix1 0) = 1 := by
  rw [val_main_call0_v16_apply, val_main_call0_v1_apply, val_main_cst_0_apply]
  exact Consts.one

/-- Every bin centre: bin `k`'s is `k/31`. -/
theorem centre (k : Fin 32) : val_main_v0 (F := Ideal) (ix1 k) = (((k.val : ℝ) / 31 : ℝ) : EReal) := by
  unfold val_main_v0
  by_cases h : k.val < 31
  · rw [concatenate_pair_apply_left (0 : Fin S32.rank) (val_main_call0_v15 (F := Ideal)) (val_main_call0_v16 (F := Ideal))
      concatenates_S31_S1_S32_d0 (ix1 k) rfl (ix1 ⟨k.val, h⟩) (fun a => match a with | ⟨0, _⟩ => rfl)]
    exact centre_init ⟨k.val, h⟩
  · have hk : k.val = 31 := by omega
    rw [concatenate_pair_apply_right (0 : Fin S32.rank) (val_main_call0_v15 (F := Ideal)) (val_main_call0_v16 (F := Ideal))
      concatenates_S31_S1_S32_d0 (ix1 k) rfl rfl (ix1 0) (fun a ha => match a with | ⟨0, _⟩ => absurd rfl ha) hk.symm,
      centre_last, hk, ← EReal.coe_one]
    norm_num

/-- The reference's exponential at one voxel and one bin: with the voxel clipped and the bin's centre `k/31`, its Gaussian. -/
theorem gaussian (x c : Ideal .f32) (k : Fin 32) (hc : (c : EReal) = (((k.val : ℝ) / 31 : ℝ) : EReal)) :
    FloatOps.hostUnary (F := Ideal) (φ := .f32) .exp (FloatOps.mulf (FloatOps.hostNegf (FloatOps.ofBits .f32 0x44F04001#32))
      (FloatOps.mulf
        (FloatOps.subf (FloatOps.minimumf (FloatOps.ofBits .f32 0x3F800000#32) (FloatOps.maximumf (FloatOps.ofBits .f32 0x00000000#32) x)) c)
        (FloatOps.subf (FloatOps.minimumf (FloatOps.ofBits .f32 0x3F800000#32) (FloatOps.maximumf (FloatOps.ofBits .f32 0x00000000#32) x)) c)))
      = ((Parzen.bump (Parzen.unit x) k : ℝ) : EReal) := by
  show Ideal.exp (-(Ideal.ofBits .f32 0x44F04001#32) * ((min (Ideal.ofBits .f32 0x3F800000#32) (max (Ideal.ofBits .f32 0x00000000#32) x) - c)
    * (min (Ideal.ofBits .f32 0x3F800000#32) (max (Ideal.ofBits .f32 0x00000000#32) x) - c))) = _
  rw [Consts.one, Ideal.ofBits_zero_f32, Consts.preterm, show min 1 (max 0 x) = Parzen.clip x from rfl, ← Parzen.coe_unit, hc,
    ← EReal.coe_sub, ← EReal.coe_mul, ← EReal.coe_neg, ← EReal.coe_mul, Ideal.exp_coe]
  rfl

/-- A voxel's row in the reshaped volume: the index the reshape and the broadcast over the bins read. -/
theorem voxel_index (b : Fin 2) (n : Fin 512000) (k : Fin 32) : idx_main_v22 (idx_main_v25 (ix3 b n k))
    = ix5 b 0 ⟨n.val / 6400, by omega⟩ ⟨n.val / 80 % 80, by omega⟩ ⟨n.val % 80, by omega⟩ := by
  have hn := n.isLt
  refine funext fun a => Fin.ext ?_
  match a with
  | ⟨0, _⟩ => show ((b.val * 512000 + n.val) * 1 + 0) / 512000 = b.val; omega
  | ⟨1, _⟩ => rfl
  | ⟨2, _⟩ => show ((b.val * 512000 + n.val) * 1 + 0) / 6400 % 80 = n.val / 6400; omega
  | ⟨3, _⟩ => show ((b.val * 512000 + n.val) * 1 + 0) / 80 % 80 = n.val / 80 % 80; omega
  | ⟨4, _⟩ => show ((b.val * 512000 + n.val) * 1 + 0) % 80 = n.val % 80; omega

/-- The bin's place in the centres. -/
theorem bin_index (b : Fin 2) (n : Fin 512000) (k : Fin 32) : idx_main_v24 (idx_main_v26 (ix3 b n k)) = ix1 k :=
  funext fun a => match a with | ⟨0, _⟩ => rfl

/-- The sum over the bins reads the voxel's bins. -/
theorem bins_index (b : Fin 2) (n : Fin 512000) (k j : Fin 32) :
    idx_main_v32 (idx_main_v33 (idx_main_v34 (ix3 b n k))) j = ix3 b n j :=
  funext fun a => match a with | ⟨0, _⟩ => rfl | ⟨1, _⟩ => rfl | ⟨2, _⟩ => rfl

variable (x0 x1 : FVec Ideal S2x1x80x80x80 .f32) (h0 : Range.InUnit x0) (h1 : Range.InUnit x1)

include h0 h1

/-- The Gaussians of the first array. -/
theorem bump_first (b : Fin 2) (n : Fin 512000) (k : Fin 32) :
    val_main_v31 (F := Ideal) x0 x1 (ix3 b n k) = ((Parzen.bump (Parzen.unit (Parzen.voxels x0 b n)) k : ℝ) : EReal) := by
  rw [val_main_v31_apply, val_main_v30_apply, val_main_v29_apply, val_main_v23_apply, val_main_cst_11_apply, val_main_v28_apply,
    val_main_v27_apply, val_main_v25_apply, val_main_v22_apply, val_main_v21_apply, val_main_call3_v4_apply, val_main_call3_v3_apply,
    val_main_cst_10_apply, val_main_call3_v2_apply, val_main_call3_v1_apply, val_main_call3_v0_apply, val_main_cst_9_apply,
    Range.first x0 x1 h0 h1, val_main_v26_apply, val_main_v24_apply, bin_index, voxel_index]
  exact gaussian _ _ k (centre k)

/-- The Gaussians of the second array. -/
theorem bump_second (b : Fin 2) (n : Fin 512000) (k : Fin 32) :
    val_main_v50 (F := Ideal) x0 x1 (ix3 b n k) = ((Parzen.bump (Parzen.unit (Parzen.voxels x1 b n)) k : ℝ) : EReal) := by
  rw [val_main_v50_apply, val_main_v49_apply, val_main_v48_apply, val_main_v42_apply, val_main_cst_17_apply, val_main_v47_apply,
    val_main_v46_apply, val_main_v44_apply, val_main_v41_apply, val_main_v40_apply, val_main_call4_v4_apply, val_main_call4_v3_apply,
    val_main_cst_16_apply, val_main_call4_v2_apply, val_main_call4_v1_apply, val_main_call4_v0_apply, val_main_cst_15_apply,
    Range.second x0 x1 h0 h1, val_main_v45_apply, val_main_v43_apply]
  refine Eq.trans ?_ (gaussian (Parzen.voxels x1 b n) (val_main_v0 (F := Ideal) (ix1 k)) k (centre k))
  rw [show idx_main_v43 (idx_main_v45 (ix3 b n k)) = ix1 k from bin_index b n k,
    show idx_main_v41 (idx_main_v44 (ix3 b n k)) = _ from voxel_index b n k]
  rfl

/-- The weights of the first array. -/
theorem weight_first (b : Fin 2) (n : Fin 512000) (k : Fin 32) :
    val_main_v35 (F := Ideal) x0 x1 (ix3 b n k) = Parzen.weight (Parzen.voxels x0 b n) k := by
  rw [val_main_v35_apply, val_main_v34_apply, val_main_v33_apply, val_main_v32_apply, val_main_cst_12_apply, Ideal.ofBits_def,
    Ideal.ofBits_zero_f32, zero_add, Ideal.hostDivf_def]
  simp only [bins_index, bump_first x0 x1 h0 h1]
  rfl

/-- The weights of the second array. -/
theorem weight_second (b : Fin 2) (n : Fin 512000) (k : Fin 32) :
    val_main_v54 (F := Ideal) x0 x1 (ix3 b n k) = Parzen.weight (Parzen.voxels x1 b n) k := by
  have hi : ∀ j, idx_main_v51 (idx_main_v52 (idx_main_v53 (ix3 b n k))) j = ix3 b n j := bins_index b n k
  rw [val_main_v54_apply, val_main_v53_apply, val_main_v52_apply, val_main_v51_apply, val_main_cst_18_apply, Ideal.ofBits_def,
    Ideal.ofBits_zero_f32, zero_add, Ideal.hostDivf_def]
  simp only [hi, bump_second x0 x1 h0 h1]
  rfl

end Cert.Reference

end
-- ==== Proof.ReferenceValue.lean ====
/- What the reference returns, on the extended reals, of two arrays in the unit interval: the loss of their voxels. -/
module

public import proofs.«01_k».proof.Proof.Reference

@[expose] public section

noncomputable section

namespace Cert.Reference

open Cert.ReferenceIdeal Cert.ReferenceIdeal.Gen Cert.ReferenceIdeal.Read Idealize.ShloMosaic Idealize.ShloMosaic.TcCoe
  Idealize.SL.Sem

/-- The number the reference adds. -/
abbrev eps : EReal := Ideal.ofBits .f32 0x33D6BF95#32

/-- A sum divided by the number of voxels is its product with 1/512000. -/
theorem mean (x : EReal) : Ideal.div x (Ideal.ofBits .f32 0x48FA0000#32) = x * ((1 / 512000 : ℝ) : EReal) := by
  rw [Consts.voxels, Ideal.div_coe (by norm_num)]

/-- The sum over both axes of bins. -/
theorem sum_bins (y : FVec Ideal S2x32x32 .f32) (b : Fin 2) :
    Host.reduceAdd (F := Ideal) y (val_main_cst_25 (F := Ideal)) reducesTo_S2x32x32_S2_d2_1 h_S_ (ix1 b)
      = ∑ i : Fin 32, ∑ j : Fin 32, y (ix3 b i j) := by
  have h : S2x32x32.ReducesTo [1, 2] S2 := by decide
  have hd : ∀ i, reducesTo_S2x32x32_S2_d2_1.drop i = h.drop i := fun i =>
    funext fun a => match a with | ⟨0, _⟩ => rfl
  have e : Ideal.hostReduceAdd reducesTo_S2x32x32_S2_d2_1 y 0 (ix1 b) = Ideal.hostReduceAdd h y 0 (ix1 b) := by
    simp only [Ideal.hostReduceAdd, hd]
  unfold val_main_cst_25
  pointwise
  rw [e]
  pointwise

variable (x0 x1 : FVec Ideal S2x1x80x80x80 .f32) (h0 : Range.InUnit x0) (h1 : Range.InUnit x1)

include h0 h1

/-- The mean weights of the first array. -/
theorem marginal_first (b : Fin 2) (i : Fin 32) :
    val_main_v39 (F := Ideal) x0 x1 (ix3 b 0 i) = Parzen.marginal (Parzen.voxels x0) b i := by
  have hi : ∀ n, idx_main_v36 (idx_main_v37 (ix3 b 0 i)) n = ix3 b n i := fun n =>
    funext fun a => match a with | ⟨0, _⟩ => rfl | ⟨1, _⟩ => rfl | ⟨2, _⟩ => rfl
  rw [val_main_v39_apply, val_main_v37_apply, val_main_v36_apply, val_main_cst_13_apply, val_main_v38_apply,
    val_main_cst_14_apply, Ideal.ofBits_def, Ideal.ofBits_def, Ideal.ofBits_zero_f32, zero_add, Ideal.hostDivf_def, mean]
  simp only [hi, weight_first x0 x1 h0 h1]
  rfl

/-- The mean weights of the second array. -/
theorem marginal_second (b : Fin 2) (i : Fin 32) :
    val_main_v58 (F := Ideal) x0 x1 (ix3 b 0 i) = Parzen.marginal (Parzen.voxels x1) b i := by
  have hi : ∀ n, idx_main_v55 (idx_main_v56 (ix3 b 0 i)) n = ix3 b n i := fun n =>
    funext fun a => match a with | ⟨0, _⟩ => rfl | ⟨1, _⟩ => rfl | ⟨2, _⟩ => rfl
  rw [val_main_v58_apply, val_main_v56_apply, val_main_v55_apply, val_main_cst_19_apply, val_main_v57_apply,
    val_main_cst_20_apply, Ideal.ofBits_def, Ideal.ofBits_def, Ideal.ofBits_zero_f32, zero_add, Ideal.hostDivf_def, mean]
  simp only [hi, weight_second x0 x1 h0 h1]
  rfl

/-- The mean products of the two arrays' weights. -/
theorem joint_eq (b : Fin 2) (i j : Fin 32) :
    val_main_v62 (F := Ideal) x0 x1 (ix3 b i j) = Parzen.joint (Parzen.voxels x0) (Parzen.voxels x1) b i j := by
  have hl : ∀ n, idx_main_v59 (lidx_main_v60 (ix3 b i j) n) = ix3 b n i := fun n =>
    funext fun a => match a with | ⟨0, _⟩ => rfl | ⟨1, _⟩ => rfl | ⟨2, _⟩ => rfl
  have hr : ∀ n, ridx_main_v60 (ix3 b i j) n = ix3 b n j := fun n =>
    funext fun a => match a with | ⟨0, _⟩ => rfl | ⟨1, _⟩ => rfl | ⟨2, _⟩ => rfl
  rw [val_main_v62_apply, val_main_v60_apply, val_main_v61_apply, val_main_cst_21_apply, Ideal.ofBits_def, Ideal.hostDivf_def, mean]
  simp only [val_main_v59_apply, hl, hr, weight_first x0 x1 h0 h1, weight_second x0 x1 h0 h1]
  rfl

/-- The product of the two mean weights. -/
theorem product_eq (b : Fin 2) (i j : Fin 32) : val_main_v64 (F := Ideal) x0 x1 (ix3 b i j)
    = Parzen.marginal (Parzen.voxels x0) b i * Parzen.marginal (Parzen.voxels x1) b j := by
  have hl : idx_main_v63 (lidx_main_v64 (ix3 b i j) 0) = ix3 b 0 i :=
    funext fun a => match a with | ⟨0, _⟩ => rfl | ⟨1, _⟩ => rfl | ⟨2, _⟩ => rfl
  have hr : ridx_main_v64 (ix3 b i j) 0 = ix3 b 0 j :=
    funext fun a => match a with | ⟨0, _⟩ => rfl | ⟨1, _⟩ => rfl | ⟨2, _⟩ => rfl
  rw [val_main_v64_apply, Fin.sum_univ_one, val_main_v63_apply, hl, hr, marginal_first x0 x1 h0 h1, marginal_second x0 x1 h0 h1]

/-- What bins `i` and `j` add. -/
theorem cell_eq (b : Fin 2) (i j : Fin 32) :
    val_main_v73 (F := Ideal) x0 x1 (ix3 b i j) = Parzen.cell eps (Parzen.voxels x0) (Parzen.voxels x1) b i j := by
  rw [val_main_v73_apply, val_main_v72_apply, val_main_v71_apply, val_main_v70_apply, val_main_cst_24_apply, val_main_v69_apply,
    val_main_v68_apply, val_main_v67_apply, val_main_cst_23_apply, val_main_v66_apply, val_main_v65_apply, val_main_cst_22_apply,
    joint_eq x0 x1 h0 h1, product_eq x0 x1 h0 h1]
  unfold Parzen.cell
  simp only [Ideal.mulf_def, Ideal.addf_def, Ideal.hostDivf_def, Ideal.hostUnary_log_def, Ideal.ofBits_def]

/-- The mutual information of volume `b`. -/
theorem info_eq (b : Fin 2) :
    val_main_v74 (F := Ideal) x0 x1 (ix1 b) = Parzen.info eps (Parzen.voxels x0) (Parzen.voxels x1) b := by
  unfold val_main_v74
  rw [sum_bins]
  simp only [cell_eq x0 x1 h0 h1]
  rfl

/-- The reference's result is the loss of the voxels. -/
theorem result_eq : val_main_v77 (F := Ideal) x0 x1
    = fun _ => Parzen.loss eps (Ideal.ofBits .f32 0x40000000#32) (Parzen.voxels x0) (Parzen.voxels x1) := by
  funext i
  have hs : ∑ j : S2.Idx, val_main_v74 (F := Ideal) x0 x1 j
      = ∑ b : Fin 2, Parzen.info eps (Parzen.voxels x0) (Parzen.voxels x1) b := by
    refine Eq.trans (Fintype.sum_equiv ⟨fun j => j 0, fun b => ix1 b, fun j => ?_, fun _ => rfl⟩ _
      (fun b => val_main_v74 (F := Ideal) x0 x1 (ix1 b)) fun j => ?_) (Finset.sum_congr rfl fun b _ => info_eq x0 x1 h0 h1 b)
    · exact funext fun a => match a with | ⟨0, _⟩ => rfl
    · exact congrArg _ (funext fun a => match a with | ⟨0, _⟩ => rfl)
  rw [val_main_v77_apply, val_main_v76_apply, val_main_v75_apply, val_main_cst_26_apply, val_main_cst_27_apply, Ideal.ofBits_def,
    Ideal.ofBits_def, Ideal.ofBits_zero_f32, zero_add, hs]
  rfl

end Cert.Reference

end
-- ==== Proof.Equation.lean ====
/- The equation: of the same two arrays in the unit interval the idealized kernel and the reference return the same
   number, the loss of their voxels. -/
module

public import proofs.«01_k».proof.Defs
public import proofs.«01_k».proof.Proof.Gen.Pre_in_range
public import proofs.«01_k».proof.Proof.KernelValue
public import proofs.«01_k».proof.Proof.ReferenceValue

@[expose] public section

noncomputable section

namespace Cert.Equation

open Idealize.ShloMosaic Idealize.SL.Sem

/-- From memories that agree on the two arguments, both in the unit interval, the idealized kernel and the reference
    run to their ends with the same result and leave their arguments as they were. -/
theorem algebraic : Cert.algebraic_KernelIdeal_ReferenceIdeal_pre_in_range := fun m g m' g' hpre hargs =>
  ⟨fun c => Cert.KernelIdeal.Launch.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Launch.run m g,
    (θ_run Cert.ReferenceIdeal.defs _ _).mono (fun r h c => by
      obtain ⟨hr, h0, h1⟩ := h c
      obtain ⟨u0, u1⟩ := Cert.Range.inUnit_of_pre _ _ (hpre c)
      refine ⟨?_, h0, h1⟩
      rw [hr, Cert.ReferenceIdeal.Read.val_main_v77_eq, (hargs c).1, (hargs c).2]
      exact (Cert.Reference.result_eq _ _ u0 u1).trans (Cert.KernelIdeal.KernelValue.result_eq _ _).symm)
      (Cert.ReferenceIdeal.Value.run m' g')⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_in_range
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- Everything claimed: the programs' stated facts, the frames (those under the precondition are the same frames), the
    three named constants, and the equation. -/
theorem claim : Cert.Claim :=
  ⟨Cert.Kernel.Gen.facts, Cert.KernelIdeal.Gen.facts, Cert.ReferenceIdeal.Gen.facts, Cert.Pre_in_range.Gen.facts,
    fun m g _ => Cert.Kernel.Gen.frame m g,
    fun m g _ => Cert.KernelIdeal.Gen.frame m g,
    fun m g _ => Cert.KernelIdeal.Gen.frame m g,
    fun m g _ => Cert.Frames.reference m g,
    fun m g _ => Cert.Frames.reference m g,
    ⟨IdealRules.named_const.statement Cert.KernelIdeal.κ "bin_width" .f32 0x3D042108#32 ((1 / 31 : ℝ) : EReal) rfl,
      IdealRules.named_const.statement Cert.KernelIdeal.κ "neg_preterm_log2e" .f32 0xC52D4DC3#32
        ((-((15745025 / 8192) * (Real.log 2)⁻¹) : ℝ) : EReal) rfl,
      IdealRules.named_const.statement Cert.KernelIdeal.κ "inv_n" .f32 0x3603126F#32 ((1 / 512000 : ℝ) : EReal) rfl⟩,
    Cert.Equation.algebraic⟩

end Cert.Proof

end
